-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 128]⟩ ⟨2, ![512, 128]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![256, 128]⟩ ⟨2, ![1024, 128]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x128 : Shape := ⟨2, ![128, 128]⟩
abbrev S128x256 : Shape := ⟨2, ![128, 256]⟩
abbrev S256x128 : Shape := ⟨2, ![256, 128]⟩
abbrev S512x128 : Shape := ⟨2, ![512, 128]⟩
abbrev S3x2x256x128 : Shape := ⟨4, ![3, 2, 256, 128]⟩
abbrev S14 : Shape := ⟨1, ![14]⟩
abbrev S_ : Shape := ⟨0, ![]⟩
abbrev S1 : Shape := ⟨1, ![1]⟩
abbrev S256x256 : Shape := ⟨2, ![256, 256]⟩
abbrev S1x1x256x128 : Shape := ⟨4, ![1, 1, 256, 128]⟩

abbrev nBuf : Space → Nat
  | .hbm => 8
  | .vmem => 13
  | .smem => 0
  | _ => 0

abbrev bufTy : (tb : Table) → Fin (tcTables nBuf tb) → BufTy
  | .hbm, ⟨0, _⟩ => ⟨S128x128, .f32⟩
  | .hbm, ⟨1, _⟩ => ⟨S128x256, .f32⟩
  | .hbm, ⟨2, _⟩ => ⟨S256x128, .f32⟩
  | .hbm, ⟨3, _⟩ => ⟨S128x256, .f32⟩
  | .hbm, ⟨4, _⟩ => ⟨S256x128, .f32⟩
  | .hbm, ⟨5, _⟩ => ⟨S128x256, .f32⟩
  | .hbm, ⟨6, _⟩ => ⟨S256x128, .f32⟩
  | .hbm, ⟨7, _⟩ => ⟨S512x128, .f32⟩
  | .local _ .vmem, ⟨0, _⟩ => ⟨S128x128, .f32⟩
  | .local _ .vmem, ⟨1, _⟩ => ⟨S128x256, .f32⟩
  | .local _ .vmem, ⟨2, _⟩ => ⟨S256x128, .f32⟩
  | .local _ .vmem, ⟨3, _⟩ => ⟨S128x256, .f32⟩
  | .local _ .vmem, ⟨4, _⟩ => ⟨S256x128, .f32⟩
  | .local _ .vmem, ⟨5, _⟩ => ⟨S128x256, .f32⟩
  | .local _ .vmem, ⟨6, _⟩ => ⟨S256x128, .f32⟩
  | .local _ .vmem, ⟨7, _⟩ => ⟨S512x128, .f32⟩
  | .local _ .vmem, ⟨8, _⟩ => ⟨S512x128, .bf16⟩
  | .local _ .vmem, ⟨9, _⟩ => ⟨S3x2x256x128, .bf16⟩
  | .local _ .vmem, ⟨10, _⟩ => ⟨S3x2x256x128, .bf16⟩
  | .local _ .vmem, ⟨11, _⟩ => ⟨S3x2x256x128, .bf16⟩
  | .local _ .vmem, ⟨12, _⟩ => ⟨S3x2x256x128, .bf16⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_2 : BitVec 32 := 1#32
  let v6 : BitVec 32 := Scalar.muli v3 c1_i32_2
  let v7 : BitVec 32 := Scalar.addi c0_i32 v6
  v7.toNat
def k0_dev2 (d0 : Dev nD) : Nat :=
  let c0_i32_5 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_4 : BitVec 32 := 1#32
  let v8 : BitVec 32 := Scalar.muli v4 c1_i32_4
  let v9 : BitVec 32 := Scalar.addi c0_i32_5 v8
  v9.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v10 : BitVec 32 := Scalar.muli v2 c128_i32
  let v14 : Index := Scalar.indexCast v10
  let c0_7 : Index := 0#32
  ![v14.toNat, 0]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32 : BitVec 32 := 128#32
  let v10 : BitVec 32 := Scalar.muli v2 c128_i32
  let c0_i32_12 : BitVec 32 := 0#32
  ![v10.toNat, 0]
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_10 : BitVec 32 := 1#32
  let v18 : BitVec 32 := Scalar.muli v3 c1_i32_10
  let v19 : BitVec 32 := Scalar.addi c0_i32_11 v18
  v19.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_21 : BitVec 32 := 0#32
  let v33 : BitVec 1 := Scalar.cmpi .sgt v2 c0_i32_21
  let v34 : BitVec 32 := Scalar.extui v33
  let c0_i32_22 : BitVec 32 := 0#32
  let v35 : BitVec 1 := Scalar.cmpi .slt v2 c0_i32_22
  let v36 : BitVec 32 := Scalar.extui v35
  let v37 : BitVec 32 := Scalar.subi v34 v36
  let c2_i32_20 : BitVec 32 := 2#32
  let c0_i32_23 : BitVec 32 := 0#32
  let v38 : BitVec 1 := Scalar.cmpi .sgt c2_i32_20 c0_i32_23
  let v39 : BitVec 32 := Scalar.extui v38
  let c0_i32_24 : BitVec 32 := 0#32
  let v40 : BitVec 1 := Scalar.cmpi .slt c2_i32_20 c0_i32_24
  let v41 : BitVec 32 := Scalar.extui v40
  let v42 : BitVec 32 := Scalar.subi v39 v41
  let v43 : BitVec 1 := Scalar.cmpi .ne v37 v42
  let v44 : BitVec 32 := Scalar.remsi v2 c2_i32_20
  let c0_i32_25 : BitVec 32 := 0#32
  let v45 : BitVec 1 := Scalar.cmpi .ne v44 c0_i32_25
  let v46 : BitVec 1 := Scalar.andi v43 v45
  let v32 : BitVec 32 := Scalar.divsi v2 c2_i32_20
  let c1_i32_26 : BitVec 32 := 1#32
  let v47 : BitVec 32 := Scalar.subi v32 c1_i32_26
  let v48 : BitVec 32 := Scalar.select v46 v47 v32
  let c256_i32 : BitVec 32 := 256#32
  let v49 : BitVec 32 := Scalar.muli v48 c256_i32
  let c0_i32_31 : BitVec 32 := 0#32
  ![v49.toNat, 0]
def k0_dev4 (d0 : Dev nD) : Nat :=
  let c0_i32_30 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_29 : BitVec 32 := 1#32
  let v50 : BitVec 32 := Scalar.muli v4 c1_i32_29
  let v51 : BitVec 32 := Scalar.addi c0_i32_30 v50
  v51.toNat
def k0_dev5 (d0 : Dev nD) : Nat :=
  let c0_i32_59 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_58 : BitVec 32 := 1#32
  let v80 : BitVec 32 := Scalar.muli v3 c1_i32_58
  let v81 : BitVec 32 := Scalar.addi c0_i32_59 v80
  v81.toNat
def k0_dev6 (d0 : Dev nD) : Nat :=
  let c0_i32_81 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_80 : BitVec 32 := 1#32
  let v102 : BitVec 32 := Scalar.muli v4 c1_i32_80
  let v103 : BitVec 32 := Scalar.addi c0_i32_81 v102
  v103.toNat
def k0_dev7 (d0 : Dev nD) : Nat :=
  let c0_i32_113 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_112 : BitVec 32 := 1#32
  let v128 : BitVec 32 := Scalar.muli v4 c1_i32_112
  let v129 : BitVec 32 := Scalar.addi c0_i32_113 v128
  v129.toNat
def k0_dev8 (d0 : Dev nD) : Nat :=
  let c0_i32_144 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_143 : BitVec 32 := 1#32
  let v154 : BitVec 32 := Scalar.muli v3 c1_i32_143
  let v155 : BitVec 32 := Scalar.addi c0_i32_144 v154
  v155.toNat
def k0_dev9 (d0 : Dev nD) : Nat :=
  let c0_i32_186 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_185 : BitVec 32 := 1#32
  let v191 : BitVec 32 := Scalar.muli v3 c1_i32_185
  let v192 : BitVec 32 := Scalar.addi c0_i32_186 v191
  v192.toNat
def k0_dev10 (d0 : Dev nD) : Nat :=
  let c0_i32_228 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_227 : BitVec 32 := 1#32
  let v228 : BitVec 32 := Scalar.muli v4 c1_i32_227
  let v229 : BitVec 32 := Scalar.addi c0_i32_228 v228
  v229.toNat
def k0_dev11 (d0 : Dev nD) : Nat :=
  let c0_i32_259 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_258 : BitVec 32 := 1#32
  let v254 : BitVec 32 := Scalar.muli v4 c1_i32_258
  let v255 : BitVec 32 := Scalar.addi c0_i32_259 v254
  v255.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_289 : BitVec 32 := 1#32
  let v280 : BitVec 32 := Scalar.muli v3 c1_i32_289
  let v281 : BitVec 32 := Scalar.addi c0_i32_290 v280
  v281.toNat
def k0_dev13 (d0 : Dev nD) : Nat :=
  let c0_i32_331 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_330 : BitVec 32 := 1#32
  let v317 : BitVec 32 := Scalar.muli v3 c1_i32_330
  let v318 : BitVec 32 := Scalar.addi c0_i32_331 v317
  v318.toNat
def k0_dev14 (d0 : Dev nD) : Nat :=
  let c0_i32_373 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_372 : BitVec 32 := 1#32
  let v354 : BitVec 32 := Scalar.muli v4 c1_i32_372
  let v355 : BitVec 32 := Scalar.addi c0_i32_373 v354
  v355.toNat
def k0_dev15 (d0 : Dev nD) : Nat :=
  let c0_i32_404 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_403 : BitVec 32 := 1#32
  let v380 : BitVec 32 := Scalar.muli v4 c1_i32_403
  let v381 : BitVec 32 := Scalar.addi c0_i32_404 v380
  v381.toNat
def k0_dev16 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_434 : BitVec 32 := 1#32
  let v406 : BitVec 32 := Scalar.muli v3 c1_i32_434
  let v407 : BitVec 32 := Scalar.addi c0_i32_435 v406
  v407.toNat
abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S512x128 : Shape := ⟨2, ![512, 128]⟩
abbrev S128x1024 : Shape := ⟨2, ![128, 1024]⟩
abbrev S1024x128 : Shape := ⟨2, ![1024, 128]⟩
abbrev S512x1024 : Shape := ⟨2, ![512, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S128x1024, .f32⟩
  | .hbm, ⟨2, _⟩ => ⟨S1024x128, .f32⟩
  | .hbm, ⟨3, _⟩ => ⟨S128x1024, .f32⟩
  | .hbm, ⟨4, _⟩ => ⟨S1024x128, .f32⟩
  | .hbm, ⟨5, _⟩ => ⟨S128x1024, .f32⟩
  | .hbm, ⟨6, _⟩ => ⟨S1024x128, .f32⟩
  | .hbm, ⟨7, _⟩ => ⟨S512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S512x128, .f32⟩
  | .hbm, ⟨12, _⟩ => ⟨S512x1024, .f32⟩
  | .hbm, ⟨13, _⟩ => ⟨S_, .f32⟩
  | .hbm, ⟨14, _⟩ => ⟨S512x1024, .f32⟩
  | .hbm, ⟨15, _⟩ => ⟨S512x1024, .f32⟩
  | .hbm, ⟨16, _⟩ => ⟨S512x128, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Mlp.KernelIdeal.Proto.lean ====
/-
The protocol of the three-layer MLP kernel on four devices: who copies what to whom, on which semaphore, and the
contents every landing hands over.

Device `c` talks to `pa c` (the other device of its pair) and to `pb c` (the device opposite in the other pair). After
a handshake on the barrier semaphore with both, it makes fourteen transfers, transfer `j` with send semaphore `j` and
receive semaphore `j`, each used once:

* `0`: its own 128 rows of the gathered activations, to `pa c`; `1`: its pair's 256 rows, to `pb c`;
* `2 + 4 l + h` (`h = 0, 1`): the partial result of layer `l`, half `h`, to `pa c` for `h = 0`, to `pb c` for `h = 1`;
* `4 + 4 l + h`: the sum of the two partial results just met, to `pb c` for `h = 0`, to `pa c` for `h = 1`.

What is received on semaphore `j` comes from the device transfer `j` goes to.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB
local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices -/

set_option backward.proofsInPublic true in
/-- The other device of `c`'s pair. -/
def pa (c : Dev nD) : Dev nD := ⟨c.val ^^^ 1, by revert c; decide⟩
set_option backward.proofsInPublic true in
/-- The device opposite `c` in the other pair. -/
def pb (c : Dev nD) : Dev nD := ⟨3 - c.val, by revert c; decide⟩

/-- Being partners in the pair is mutual; -/
theorem pa_pa (c : Dev nD) : pa (pa c) = c := by revert c; decide
/-- so is being opposite. -/
theorem pb_pb (c : Dev nD) : pb (pb c) = c := by revert c; decide

/-- The device that half `h`'s partial result goes to. -/
def st1 (h : Fin 2) (c : Dev nD) : Dev nD := if h = 0 then pa c else pb c
/-- The device that half `h`'s sum goes to. -/
def st2 (h : Fin 2) (c : Dev nD) : Dev nD := if h = 0 then pb c else pa c

/-- The device transfer `j` goes to. -/
def tgt : ℕ → Dev nD → Dev nD
  | 0, c => pa c
  | 1, c => pb c
  | n + 2, c => if n % 4 = 0 ∨ n % 4 = 3 then pa c else pb c

/-- The device that a transfer goes to sends its own one back. -/
theorem tgt_tgt (j : ℕ) (c : Dev nD) : tgt j (tgt j c) = c := by
  rcases j with _ | _ | n
  · exact pa_pa c
  · exact pb_pb c
  · by_cases h : n % 4 = 0 ∨ n % 4 = 3
    · simp only [tgt, if_pos h, pa_pa]
    · simp only [tgt, if_neg h, pb_pb]

/-! ## Contents -/

/-- Device `c`'s blocks of the arguments, as its launch stages them. -/
def xs (c : Dev nD) : Vec F S128x128 .f32 := (win0_0.blk (0 : Fin 1)).view.read (Elt F) (m ((c : Thread nD τ).loc main_arg0))
def w0 (c : Dev nD) : Vec F S128x256 .f32 := (win0_1.blk (0 : Fin 1)).view.read (Elt F) (m ((c : Thread nD τ).loc main_arg1))
def v0 (c : Dev nD) : Vec F S256x128 .f32 := (win0_2.blk (0 : Fin 1)).view.read (Elt F) (m ((c : Thread nD τ).loc main_arg2))
def w1 (c : Dev nD) : Vec F S128x256 .f32 := (win0_3.blk (0 : Fin 1)).view.read (Elt F) (m ((c : Thread nD τ).loc main_arg3))
def v1 (c : Dev nD) : Vec F S256x128 .f32 := (win0_4.blk (0 : Fin 1)).view.read (Elt F) (m ((c : Thread nD τ).loc main_arg4))
def w2 (c : Dev nD) : Vec F S128x256 .f32 := (win0_5.blk (0 : Fin 1)).view.read (Elt F) (m ((c : Thread nD τ).loc main_arg5))
def v2 (c : Dev nD) : Vec F S256x128 .f32 := (win0_6.blk (0 : Fin 1)).view.read (Elt F) (m ((c : Thread nD τ).loc main_arg6))

/-- Layer `l`'s two weight blocks. -/
def wl (l : ℕ) (c : Dev nD) : Vec F S128x256 .f32 := match l with | 0 => w0 m c | 1 => w1 m c | _ => w2 m c
def vl (l : ℕ) (c : Dev nD) : Vec F S256x128 .f32 := match l with | 0 => v0 m c | 1 => v1 m c | _ => v2 m c

/-- The index `(a, b)` of a matrix. -/
def ix {p q : ℕ} (a : Fin p) (b : Fin q) : (⟨2, ![p, q]⟩ : Shape).Idx := fun
  | ⟨0, _⟩ => a
  | ⟨1, _⟩ => b

set_option backward.proofsInPublic true in
/-- The gathered activations every device ends up with: row block `b` is device `b`'s block of `x`, narrowed. -/
def G (i : S512x128.Idx) : Elt F .bf16 :=
  k0_pay1 (xs m ⟨(i 0).val / 128, Nat.div_lt_of_lt_mul (i 0).isLt⟩)
    (ix (p := 128) (q := 128) ⟨(i 0).val % 128, Nat.mod_lt _ (by decide)⟩ (i 1))

set_option backward.proofsInPublic true in
/-- Their rows `256 h … 256 h + 255`. -/
def gHalf (h : Fin 2) : Vec F S256x128 .bf16 := fun i =>
  G m (ix (p := 512) (q := 128) ⟨256 * h.val + (i 0).val, by have h1 := h.isLt; have h2 : (i 0).val < 256 := (i 0).isLt; omega⟩ (i 1))

/-- One device's part of a layer: activations `x`, a column block `w` of the first weight and the matching row block
    `v` of the second. -/
def part (x : FVec F S256x128 .f32) (w : Vec F S128x256 .f32) (v : Vec F S256x128 .f32) : FVec F S256x128 .f32 := k0_pay6 x (k0_pay5 w) v

/-- Wide and narrow forms of the same array. -/
abbrev up (x : Vec F S256x128 .bf16) : FVec F S256x128 .f32 := extf .f32 x bitsLt_bf16_f32
abbrev dn (x : FVec F S256x128 .f32) : FVec F S256x128 .bf16 := truncf .bf16 x bitsLt_bf16_f32

/-- From the activations entering a layer: the partial result, what is sent of it, and the sum of the two met first. -/
def partOf (x : Fin 2 → Dev nD → FVec F S256x128 .f32) (l : ℕ) (h : Fin 2) (c : Dev nD) : FVec F S256x128 .f32 := part (x h c) (wl m l c) (vl m l c)
def sentOf (x : Fin 2 → Dev nD → FVec F S256x128 .f32) (l : ℕ) (h : Fin 2) (c : Dev nD) : Vec F S256x128 .bf16 := dn (partOf m x l h c)
def pairOf (x : Fin 2 → Dev nD → FVec F S256x128 .f32) (l : ℕ) (h : Fin 2) (c : Dev nD) : Vec F S256x128 .bf16 :=
  dn (addf (partOf m x l h c) (up (sentOf m x l h (st1 h c))))

/-- The activations entering layer `l`: half `h`, as device `c` holds them; `l = 3`: the result. -/
def act : ℕ → Fin 2 → Dev nD → FVec F S256x128 .f32
  | 0 => fun h _ => up (gHalf m h)
  | l + 1 => fun h c => addf (up (pairOf m (act l) l h c)) (up (pairOf m (act l) l h (st2 h c)))

/-- Layer `l`, half `h`: device `c`'s partial result; what it sends of it; the sum it sends next. -/
def pw (l : ℕ) (h : Fin 2) (c : Dev nD) : FVec F S256x128 .f32 := partOf m (act m l) l h c
def pn (l : ℕ) (h : Fin 2) (c : Dev nD) : Vec F S256x128 .bf16 := sentOf m (act m l) l h c
def sn (l : ℕ) (h : Fin 2) (c : Dev nD) : Vec F S256x128 .bf16 := pairOf m (act m l) l h c

/-! ## The memrefs -/

abbrev xM : Memref sig .tc .vmem S512x128 .bf16 := Memref.whole cc0_scratch0
abbrev pM : Memref sig .tc .vmem S3x2x256x128 .bf16 := Memref.whole cc0_scratch1
abbrev aM : Memref sig .tc .vmem S3x2x256x128 .bf16 := Memref.whole cc0_scratch2
abbrev sM : Memref sig .tc .vmem S3x2x256x128 .bf16 := Memref.whole cc0_scratch3
abbrev bM : Memref sig .tc .vmem S3x2x256x128 .bf16 := Memref.whole cc0_scratch4

/-- Every place lies in its array. -/
theorem slot_inb (l : Fin 3) (h : Fin 2) : ∀ a, (![l.val, h.val, 0, 0] : Fin 4 → ℕ) a + S1x1x256x128.size a ≤ S3x2x256x128.size a := by
  revert l h; decide

/-- The place of layer `l`, half `h` in a scratch array. -/
abbrev slotR (l : Fin 3) (h : Fin 2) : Rect S3x2x256x128 := Rect.unit (s := S3x2x256x128) ![l.val, h.val, 0, 0] S1x1x256x128.size (slot_inb l h)
abbrev slot (M : Memref sig .tc .vmem S3x2x256x128 .bf16) (l : Fin 3) (h : Fin 2) : Memref sig .tc .vmem S256x128 .bf16 :=
  (M.slice (slotR l h) (fun _ => rfl)).squeeze S256x128 squeezes_S1x1x256x128_S256x128

/-- Device `c`'s own rows of the gathered activations, and its pair's. -/
abbrev rowM (c : Dev nD) : Memref sig .tc .vmem S128x128 .bf16 :=
  xM.slice (Rect.unit (s := S512x128) (k0_off2 c) S128x128.size (k0_off2_inb c)) (fun _ => rfl)
abbrev pairM (c : Dev nD) : Memref sig .tc .vmem S256x128 .bf16 :=
  xM.slice (Rect.unit (s := S512x128) (k0_off3 c) S256x128.size (k0_off3_inb c)) (fun _ => rfl)

/-- The elements of those rows. -/
def Row (c : Dev nD) : Finset S512x128.Idx := (Rect.unit (s := S512x128) (k0_off2 c) S128x128.size (k0_off2_inb c)).set
def Pair (c : Dev nD) : Finset S512x128.Idx := (Rect.unit (s := S512x128) (k0_off3 c) S256x128.size (k0_off3_inb c)).set

/-- Elements `S` of device `c`'s gathered activations, share `q`, contents `f`. -/
def xPts (c : Dev nD) (S : Finset S512x128.Idx) (q : PosShare TreeShare) (f : S512x128.Idx → Elt F .bf16) : sProp 𝕄 :=
  ((c : Thread nD τ).loc cc0_scratch0) ↦[S]{q} f

/-- Elements of the gathered activations can be handed over by a semaphore. -/
instance xPts_storable (c : Dev nD) (S q f) : BI.Storable (upEmb : UEmb _ 𝕄) (xPts (F := F) c S q f) := by unfold xPts; infer_instance

/-- Where a pair's rows start. -/
theorem off3_eq : ∀ c : Dev nD, k0_off3 c = ![256 * (c.val / 2), 0] := by decide +kernel

/-- A device's rows, by row number; -/
theorem mem_Row {c : Dev nD} {i : S512x128.Idx} : i ∈ Row c ↔ (i 0).val / 128 = c.val := by
  unfold Row; rw [Rect.mem_set_unit, k0_off2_eq]
  have h1 : (i 1).val < 128 := (i 1).isLt
  constructor
  · intro h; have := h 0; simp at this; omega
  · intro h a; fin_cases a
    · simp; omega
    · simp; omega

/-- a pair's rows, by row number. -/
theorem mem_Pair {c : Dev nD} {i : S512x128.Idx} : i ∈ Pair c ↔ (i 0).val / 256 = c.val / 2 := by
  unfold Pair; rw [Rect.mem_set_unit, off3_eq]
  have h1 : (i 1).val < 128 := (i 1).isLt
  constructor
  · intro h; have := h 0; simp at this; omega
  · intro h a; fin_cases a
    · simp; omega
    · simp; omega

/-- The partner is another device of the same pair; -/
theorem pa_facts (c : Dev nD) : (pa c).val / 2 = c.val / 2 ∧ (pa c).val ≠ c.val := by revert c; decide
/-- the opposite device is of the other pair. -/
theorem pb_facts (c : Dev nD) : (pb c).val / 2 ≠ c.val / 2 := by revert c; decide

/-- Two partners have different rows, -/
theorem Row_disj (c : Dev nD) : Disjoint (Row c) (Row (pa c)) := by
  rw [Finset.disjoint_left]; intro i h1 h2; rw [mem_Row] at h1 h2; exact (pa_facts c).2 (h2.symm.trans h1)
/-- which together are their pair's; -/
theorem Row_union (c : Dev nD) : Row c ∪ Row (pa c) = Pair c := by
  ext i; rw [Finset.mem_union, mem_Row, mem_Row, mem_Pair]
  have h := pa_facts c; have h1 := c.isLt; have h2 := (pa c).isLt; omega
/-- the two pairs have different rows, -/
theorem Pair_disj (c : Dev nD) : Disjoint (Pair c) (Pair (pb c)) := by
  rw [Finset.disjoint_left]; intro i h1 h2; rw [mem_Pair] at h1 h2; exact pb_facts c (h2.symm.trans h1)
/-- which together are all. -/
theorem Pair_union (c : Dev nD) : Pair c ∪ Pair (pb c) = Finset.univ := by
  ext i; simp only [Finset.mem_union, mem_Pair, Finset.mem_univ, iff_true]
  have h := pb_facts c; have h1 : c.val < 4 := c.isLt; have h2 : (pb c).val < 4 := (pb c).isLt
  have h3 : (i 0).val < 512 := (i 0).isLt; omega

end Cert.KernelIdeal.Mlp

end
-- ==== Proof.Mlp.KernelIdeal.Sched.lean ====
/-
The schedule of the protocol: the semaphores, what each of their duties pays and hands over, what a device owes, and
the levels by which it may wait.
-/
module

public import proofs.«01_k».proof.Proof.Mlp.KernelIdeal.Proto

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells -/

/-- The barrier semaphore; the send and the receive semaphore of transfer `j`. -/
abbrev barS : Sem sig := (SemArray.scalar (sig.barrier 0 rfl) : Sems sig S_).sem
set_option backward.proofsInPublic true in
abbrev sndS (j : Fin 14) : DmaSem sig := ⟨8 + j.val, by have := j.isLt; show _ < 36; omega⟩
set_option backward.proofsInPublic true in
abbrev rcvS (j : Fin 14) : DmaSem sig := ⟨22 + j.val, by have := j.isLt; show _ < 36; omega⟩

abbrev barCell (c : Dev nD) : GSem nD τ sig := ((c : Thread nD τ), .reg barS)
abbrev sndCell (j : Fin 14) (c : Dev nD) : GSem nD τ sig := ((c : Thread nD τ), .dma (sndS j))
abbrev rcvCell (j : Fin 14) (c : Dev nD) : GSem nD τ sig := ((c : Thread nD τ), .dma (rcvS j))

/-- A device's own semaphores, and with the barrier all the protocol uses. -/
abbrev osem : Fin 14 ⊕ Fin 14 → SemLoc sig := fun | .inl j => .dma (sndS j) | .inr j => .dma (rcvS j)
abbrev csem : Unit ⊕ (Fin 14 ⊕ Fin 14) → SemLoc sig := fun | .inl _ => .reg barS | .inr k => osem k
abbrev kcell (ck : Dev nD × (Unit ⊕ (Fin 14 ⊕ Fin 14))) : GSem nD τ sig := ((ck.1 : Thread nD τ), csem ck.2)

/-- What a transfer credits: `128` rows for transfer `0`, `256` for the others. -/
abbrev N₀ : ℕ := (rowM (0 : Dev nD)).view.dmaCredit
abbrev N₁ : ℕ := (slot pM 0 0).view.dmaCredit
/-- The copies of rows carry some bytes, -/
theorem N₀_pos : 0 < N₀ := View.dmaCredit_pos _ (by decide)
/-- and so do the longer ones; -/
theorem N₁_pos : 0 < N₁ := View.dmaCredit_pos _ (by decide)
def amt (j : ℕ) : ℕ := if j = 0 then N₀ else N₁
/-- so every transfer does. -/
theorem amt_pos (j : ℕ) : 0 < amt j := by unfold amt; split; exacts [N₀_pos, N₁_pos]

/-! ## What the duties pay -/

set_option backward.proofsInPublic true in
/-- Transfer `n + 2`: its layer, its half, the places it copies between, what it carries, the share of the source it holds. -/
abbrev lIx (n : ℕ) : Fin 3 := ⟨n / 4 % 3, Nat.mod_lt _ (by decide)⟩
set_option backward.proofsInPublic true in
abbrev hIx (n : ℕ) : Fin 2 := ⟨n % 2, Nat.mod_lt _ (by decide)⟩
def srcM (n : ℕ) : Memref sig .tc .vmem S256x128 .bf16 := if n % 4 < 2 then slot pM (lIx n) (hIx n) else slot sM (lIx n) (hIx n)
def dstM (n : ℕ) : Memref sig .tc .vmem S256x128 .bf16 := if n % 4 < 2 then slot aM (lIx n) (hIx n) else slot bM (lIx n) (hIx n)
def val (n : ℕ) (c : Dev nD) : Vec F S256x128 .bf16 := if n % 4 < 2 then pn m (n / 4) (hIx n) c else sn m (n / 4) (hIx n) c
def shr (n : ℕ) : PosShare TreeShare := if n % 4 < 2 then fullShare else fullShare.left

/-- Transfer `j` of device `c` gives back its source when it has been read, -/
def sendPay (j : ℕ) (c : Dev nD) : sProp 𝕄 := match j with
  | 0 => xPts c (Row c) fullShare.left.left (G m)
  | 1 => xPts c (Pair c) fullShare.right (G m)
  | n + 2 => owns (c : Thread nD τ) (srcM n) (shr n) (val m n c)

/-- and device `c` gets what transfer `j` of the other device carried. -/
def recvPay (j : ℕ) (c : Dev nD) : sProp 𝕄 := match j with
  | 0 => xPts c (Row (pa c)) fullShare (G m)
  | 1 => xPts c (Pair (pb c)) fullShare (G m)
  | n + 2 => owns (c : Thread nD τ) (dstM n) fullShare (val m n (tgt (n + 2) c))

/-- A place of a scratch array, whatever it holds. -/
def free (c : Dev nD) (M : Memref sig .tc .vmem S256x128 .bf16) : sProp 𝕄 := iprop(∃ X : Vec F S256x128 .bf16, owns (c : Thread nD τ) M fullShare X)

/-- The signal of `pa c` to `c`'s barrier (duty `true`) hands `c` the places on `pa c` that `c` copies into; `pb c`'s
    (duty `false`) those on `pb c`. -/
def barPay (c : Dev nD) (d : Bool) : sProp 𝕄 := match d with
  | true => iprop((∃ f, xPts (pa c) (Row c) fullShare f)
      ∗ free (pa c) (slot aM 0 0) ∗ free (pa c) (slot bM 0 1) ∗ free (pa c) (slot aM 1 0) ∗ free (pa c) (slot bM 1 1)
      ∗ free (pa c) (slot aM 2 0) ∗ free (pa c) (slot bM 2 1))
  | false => iprop((∃ f, xPts (pb c) (Pair c) fullShare f)
      ∗ free (pb c) (slot aM 0 1) ∗ free (pb c) (slot bM 0 0) ∗ free (pb c) (slot aM 1 1) ∗ free (pb c) (slot bM 1 0)
      ∗ free (pb c) (slot aM 2 1) ∗ free (pb c) (slot bM 2 0))

/-- What a send semaphore gives back can be handed over; -/
instance sendPay_storable (j : ℕ) (c : Dev nD) : BI.Storable (upEmb : UEmb _ 𝕄) (sendPay m j c) := by
  unfold sendPay; split <;> infer_instance
/-- so can what a receive semaphore brings, -/
instance recvPay_storable (j : ℕ) (c : Dev nD) : BI.Storable (upEmb : UEmb _ 𝕄) (recvPay m j c) := by
  unfold recvPay; split <;> infer_instance
omit [FloatOps F] in
/-- a free place, -/
instance free_storable (c : Dev nD) (M) : BI.Storable (upEmb : UEmb _ 𝕄) (free (F := F) c M) := by unfold free; infer_instance
omit [FloatOps F] in
/-- and what a barrier signal brings. -/
instance barPay_storable (c : Dev nD) (d : Bool) : BI.Storable (upEmb : UEmb _ 𝕄) (barPay (F := F) c d) := by
  unfold barPay; split <;> infer_instance

/-! ## The schedule: one round -/

def Rd : Rounds.Schedule (GSem nD τ sig) Bool 𝕄 where
  duties g r := if r = 0 ∧ g.1.2 = .tc then (match g.2 with | .reg s => if s = barS then Finset.univ else ∅ | .dma q => if 8 ≤ q.val then {false} else ∅) else ∅
  unitless _ := False
  amount g _ _ := match g.2 with | .reg _ => 1 | .dma q => if q.val = 8 ∨ q.val = 22 then N₀ else N₁
  payload g _ d := match g.2 with | .reg _ => barPay g.1.1 d | .dma q => if q.val < 22 then sendPay m (q.val - 8) g.1.1 else recvPay m (q.val - 22) g.1.1
  amount_pos g _ _ _ := by
    split
    · exact Nat.one_pos
    · split; exacts [N₀_pos, N₁_pos]

/-- Every payload of the schedule can be handed over. -/
instance Rd_payload_storable (g : GSem nD τ sig) (r : ℕ) (d : Bool) : BI.Storable (upEmb : UEmb _ 𝕄) ((Rd (F := F) m).payload g r d) := by
  dsimp only [Rd]
  split
  · infer_instance
  · split <;> infer_instance

/-- A barrier has two duties in the round; -/
theorem duties_bar (c : Dev nD) : (Rd (F := F) m).duties (barCell c) 0 = Finset.univ := by
  dsimp only [Rd]; rw [if_pos ⟨rfl, rfl⟩]; exact if_pos rfl
/-- a send semaphore one, -/
theorem duties_snd (j : Fin 14) (c : Dev nD) : (Rd (F := F) m).duties (sndCell j c) 0 = {false} := by
  dsimp only [Rd]; rw [if_pos ⟨rfl, rfl⟩]; exact if_pos (Nat.le_add_right 8 _)
/-- and a receive semaphore one; -/
theorem duties_rcv (j : Fin 14) (c : Dev nD) : (Rd (F := F) m).duties (rcvCell j c) 0 = {false} := by
  dsimp only [Rd]; rw [if_pos ⟨rfl, rfl⟩]; exact if_pos (by show 8 ≤ 22 + j.val; omega)
/-- there is no later round. -/
theorem duties_later (g : GSem nD τ sig) : ∀ r, 1 ≤ r → (Rd (F := F) m).duties g r = ∅ :=
  fun r hr => by dsimp only [Rd]; rw [if_neg fun h => by omega]

/-- A barrier signal counts one; -/
theorem amount_bar (c : Dev nD) (d : Bool) : (Rd (F := F) m).amount (barCell c) 0 d = 1 := rfl
/-- a send semaphore counts the bytes sent, -/
theorem amount_snd (j : Fin 14) (c : Dev nD) (d : Bool) : (Rd (F := F) m).amount (sndCell j c) 0 d = amt j := by
  dsimp only [Rd, amt]; exact if_congr (by constructor <;> intro h <;> omega) rfl rfl
/-- a receive semaphore the same bytes. -/
theorem amount_rcv (j : Fin 14) (c : Dev nD) (d : Bool) : (Rd (F := F) m).amount (rcvCell j c) 0 d = amt j := by
  dsimp only [Rd, amt]; exact if_congr (by constructor <;> intro h <;> omega) rfl rfl

/-- A barrier waits for two; -/
theorem expect_bar (c : Dev nD) : (Rd (F := F) m).expect (barCell c) 0 = 2 := by
  unfold Schedule.expect Schedule.amountOf
  rw [duties_bar, Finset.sum_congr rfl fun d _ => amount_bar m c d, Finset.sum_const, Finset.card_univ, Fintype.card_bool, smul_eq_mul]
/-- a send semaphore for its bytes, -/
theorem expect_snd (j : Fin 14) (c : Dev nD) : (Rd (F := F) m).expect (sndCell j c) 0 = amt j := by
  unfold Schedule.expect Schedule.amountOf; rw [duties_snd, Finset.sum_singleton, amount_snd]
/-- and a receive semaphore for the same. -/
theorem expect_rcv (j : Fin 14) (c : Dev nD) : (Rd (F := F) m).expect (rcvCell j c) 0 = amt j := by
  unfold Schedule.expect Schedule.amountOf; rw [duties_rcv, Finset.sum_singleton, amount_rcv]

/-- What a barrier's signal hands over; -/
theorem payload_bar (c : Dev nD) (d : Bool) : (Rd (F := F) m).payload (barCell c) 0 d = barPay c d := rfl
/-- what a send's end hands back, -/
theorem payload_snd (j : Fin 14) (c : Dev nD) (d : Bool) : (Rd (F := F) m).payload (sndCell j c) 0 d = sendPay m j c := by
  dsimp only [Rd]; rw [if_pos (by have := j.isLt; show 8 + j.val < 22; omega), show 8 + j.val - 8 = j.val by omega]
/-- and what an arrival hands over. -/
theorem payload_rcv (j : Fin 14) (c : Dev nD) (d : Bool) : (Rd (F := F) m).payload (rcvCell j c) 0 d = recvPay m j c := by
  dsimp only [Rd]; rw [if_neg (by show ¬ 22 + j.val < 22; omega), show 22 + j.val - 22 = j.val by omega]

/-- Both of a barrier's payloads together. -/
theorem rest_bar (c : Dev nD) : bigSep ((Rd (F := F) m).duties (barCell c) 0 \ ∅) (fun d => (Rd (F := F) m).payload (barCell c) 0 d)
    = iprop(barPay c true ∗ barPay c false) := by
  rw [Finset.sdiff_empty, duties_bar, bigSep_univ_eq_bigSepL [true, false] (by decide) (by decide), bigSepL_cons_cons, bigSepL_singleton,
    payload_bar, payload_bar]
  rfl
/-- A send semaphore's one payload; -/
theorem rest_snd (j : Fin 14) (c : Dev nD) : bigSep ((Rd (F := F) m).duties (sndCell j c) 0 \ ∅) (fun d => (Rd (F := F) m).payload (sndCell j c) 0 d)
    = sendPay m j c := by
  rw [Finset.sdiff_empty, duties_snd, bigSep_singleton, payload_snd]
/-- a receive semaphore's. -/
theorem rest_rcv (j : Fin 14) (c : Dev nD) : bigSep ((Rd (F := F) m).duties (rcvCell j c) 0 \ ∅) (fun d => (Rd (F := F) m).payload (rcvCell j c) 0 d)
    = recvPay m j c := by
  rw [Finset.sdiff_empty, duties_rcv, bigSep_singleton, payload_rcv]

/-! ## What a device owes, and the levels -/

/-- From its transfer `k` on, device `c` owes the receive semaphores of transfers `k, …, 13` their credit; -/
def rem (k : ℕ) (c : Dev nD) : CellTallies nD τ sig Unit :=
  ∑ j ∈ Finset.univ.filter (fun j : Fin 14 => k ≤ j.val), tallyAt (rcvCell j (tgt j c)) () (amt j)
/-- before its signals, one unit to each of the two barriers besides. -/
def O₁ (c : Dev nD) : CellTallies nD τ sig Unit := rem 0 c + tallyAt (barCell (pb c)) () 1
def O₀ (c : Dev nD) : CellTallies nD τ sig Unit := O₁ c + tallyAt (barCell (pa c)) () 1

/-- Starting transfer `j` leaves the later ones owed; -/
theorem rem_step (j : Fin 14) (c : Dev nD) : rem j c = rem (j.val + 1) c + tallyAt (rcvCell j (tgt j c)) () (amt j) := by
  unfold rem
  rw [show (Finset.univ.filter fun i : Fin 14 => j.val ≤ i.val) = insert j (Finset.univ.filter fun i : Fin 14 => j.val + 1 ≤ i.val) by
      ext i; simp only [Finset.mem_filter, Finset.mem_univ, true_and, Finset.mem_insert, Fin.ext_iff]; omega,
    Finset.sum_insert (by simp), add_comm]
/-- after the last nothing is owed. -/
theorem rem_last (c : Dev nD) : rem 14 c = 0 := by
  unfold rem; rw [Finset.filter_false_of_mem (fun j _ => by have := j.isLt; omega), Finset.sum_empty]

/-- What is owed from transfer `k` on is owed to a later transfer's receive semaphore; -/
theorem rem_pos {k : ℕ} {c : Dev nD} {g : GSem nD τ sig} {u : Unit} (h : 0 < rem k c g u) : ∃ j : Fin 14, k ≤ j.val ∧ g = rcvCell j (tgt j c) := by
  by_contra hn
  rw [not_exists] at hn
  unfold rem at h
  rw [Finset.sum_apply, Finsupp.finset_sum_apply, Finset.sum_eq_zero] at h
  · exact Nat.lt_irrefl 0 h
  · intro j hj
    rw [tallyAt_apply, if_neg fun h' => hn j ⟨(Finset.mem_filter.mp hj).2, h'.1⟩]

/-- at the start to one of those or to a barrier. -/
theorem O₀_pos {c : Dev nD} {g : GSem nD τ sig} {u : Unit} (h : 0 < O₀ c g u) :
    (∃ j : Fin 14, g = rcvCell j (tgt j c)) ∨ g = barCell (pb c) ∨ g = barCell (pa c) := by
  by_contra hn
  rw [not_or, not_or, not_exists] at hn
  have e1 : rem 0 c g u = 0 := Nat.eq_zero_of_not_pos fun h' => by obtain ⟨j, -, hj⟩ := rem_pos h'; exact hn.1 j hj
  have e2 : (tallyAt (barCell (pb c)) () 1 : CellTallies nD τ sig Unit) g u = 0 := by rw [tallyAt_apply, if_neg fun h' => hn.2.1 h'.1]
  have e3 : (tallyAt (barCell (pa c)) () 1 : CellTallies nD τ sig Unit) g u = 0 := by rw [tallyAt_apply, if_neg fun h' => hn.2.2 h'.1]
  have e : O₀ c g u = rem 0 c g u + (tallyAt (barCell (pb c)) () 1 : CellTallies nD τ sig Unit) g u
      + (tallyAt (barCell (pa c)) () 1 : CellTallies nD τ sig Unit) g u := rfl
  rw [e, e1, e2, e3] at h
  exact Nat.lt_irrefl 0 h

def L (g : GSem nD τ sig) : Finset Unit := if g.1.2 = .tc then {()} else ∅
/-- Barriers at `1`, the receive semaphore of transfer `j` at `j + 2`, staging and send semaphores at `0`. -/
def lv (g : GSem nD τ sig) (_ : Unit) : ℕ := match g.2 with | .reg _ => 1 | .dma q => if q.val < 22 then 0 else q.val - 20

/-- Only the tensor cores have cells with a level; -/
theorem L_of_ne (g : GSem nD τ sig) (h : g.1.2 ≠ .tc) : L g = ∅ := if_neg h
/-- each of theirs has one, -/
theorem L_tc (c : Dev nD) (sm : SemLoc sig) : L ((c : Thread nD τ), sm) = {()} := if_pos rfl
/-- and every label is it. -/
theorem mem_L (c : Dev nD) (sm : SemLoc sig) (u : Unit) : u ∈ L ((c : Thread nD τ), sm) := by rw [L_tc]; exact Finset.mem_singleton_self _
/-- The level of a receive semaphore; -/
theorem lv_rcv (j : Fin 14) (c : Dev nD) (u : Unit) : lv (rcvCell j c) u = j.val + 2 := by
  dsimp only [lv]; rw [if_neg (by show ¬ 22 + j.val < 22; omega)]; omega
/-- of a staging or send semaphore. -/
theorem lv_low (c : Dev nD) (q : DmaSem sig) (hq : q.val < 22) (u : Unit) : lv ((c : Thread nD τ), .dma q) u = 0 := if_pos hq

/-- Staging and send semaphores may be waited for at any time, -/
theorem mayWait_low (c : Dev nD) (q : DmaSem sig) (hq : q.val < 22) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact mem_L _ _ _)
      (fun g u hg => by rcases O₀_pos hg with ⟨j, rfl⟩ | rfl | rfl <;> exact mem_L _ _ _)
      (fun p hp => by rw [Finset.mem_singleton.mp hp]; exact (lv_low c q hq _).le)
      (fun g u hg => by
        rcases O₀_pos hg with ⟨j, rfl⟩ | rfl | rfl
        · rw [lv_rcv]; omega
        · exact Nat.one_pos
        · exact Nat.one_pos)
  · rw [MayWait_zero]; iintro -; iempintro

/-- the barrier when only transfers are owed, -/
theorem mayWait_bar (c : Dev nD) : (levAts L lv : sProp 𝕄) ⊢ MayWait (c : Thread nD τ) (.reg barS) () (rem 0 c) :=
  MayOwe.of_cut (L := L) (lev := lv) 1 (fun p hp => by rw [Finset.mem_singleton.mp hp]; exact mem_L _ _ _)
    (fun g u hg => by obtain ⟨j, -, rfl⟩ := rem_pos hg; exact mem_L _ _ _)
    (fun p hp => by rw [Finset.mem_singleton.mp hp]; exact Nat.le_refl 1)
    (fun g u hg => by obtain ⟨j, -, rfl⟩ := rem_pos hg; rw [lv_rcv]; omega)

/-- and the receive semaphore of transfer `j` once the device's own transfer `j` is made. -/
theorem mayWait_rcv (c : Dev nD) (j : Fin 14) (k : ℕ) (hk : j.val < k) :
    (levAts L lv : sProp 𝕄) ⊢ MayWait (c : Thread nD τ) (.dma (rcvS j)) () (rem k c) :=
  MayOwe.of_cut (L := L) (lev := lv) (j.val + 2) (fun p hp => by rw [Finset.mem_singleton.mp hp]; exact mem_L _ _ _)
    (fun g u hg => by obtain ⟨i, -, rfl⟩ := rem_pos hg; exact mem_L _ _ _)
    (fun p hp => by rw [Finset.mem_singleton.mp hp]; exact (lv_rcv j c _).le)
    (fun g u hg => by obtain ⟨i, hi, rfl⟩ := rem_pos hg; rw [lv_rcv]; omega)

end Cert.KernelIdeal.Mlp

end
-- ==== Proof.Mlp.KernelIdeal.Steps.lean ====
/-
The steps the kernel's body is made of: a transfer, a wait, a load and a store, each as one entailment.
-/
module

public import proofs.«01_k».proof.Proof.Mlp.KernelIdeal.Sched

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Programs, records and holdings -/

abbrev 𝒱₀ : Variants := Variants.none

/-- Device `c` runs `p` to the postcondition `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × (Unit ⊕ (Fin 14 ⊕ Fin 14)) → ℕ)

/-- Every cell's invariant, under the names `K`, and that every cell has reached its round. -/
def records : sProp 𝕄 :=
  iprop((bigSep Finset.univ fun ck => cellInv ER (Rd m) (K ck) (kcell ck)) ∗ bigSep Finset.univ fun ck => reached ER (kcell ck) 0)

/-- That the cells are set up stays known. -/
instance records_persistent : BI.Persistent (records m K) := by unfold records; infer_instance

/-- One cell's invariant; -/
theorem records_inv (ck) : records m K ⊢ cellInv ER (Rd m) (K ck) (kcell ck) := by
  unfold records
  exact sep_elim_left.trans (show _ ⊢ _ from bigSep_elim (Φ := fun ck => (cellInv ER (Rd m) (K ck) (kcell ck) : sProp 𝕄)) (Finset.mem_univ ck))
/-- and that it has reached its round. -/
theorem records_reached (ck) : records m K ⊢ reached ER (kcell ck) 0 := by
  unfold records
  exact sep_elim_right.trans (show _ ⊢ _ from bigSep_elim (Φ := fun ck => (reached ER (kcell ck) 0 : sProp 𝕄)) (Finset.mem_univ ck))

/-- Device `c` still owes the transfers from `k` on. -/
def owed (c : Dev nD) (k : ℕ) : sProp 𝕄 := iprop(∃ W, owes (c : Thread nD τ) (rem k c) W)

/-- What transfer `j` needs; what its completion is awaited with; what the receipt is awaited with. -/
def toSend (j : Fin 14) (c : Dev nD) : sProp 𝕄 :=
  iprop(dutyTok ER (sndCell j c) 0 false ∗ dutyTok ER (rcvCell j (tgt j c)) 0 false ∗ atPos ER (sndCell j c) 0 ∅ 0)
def sent (j : Fin 14) (c : Dev nD) : sProp 𝕄 := iprop(cred (tallyAt (sndCell j c) () (amt j)) ∗ atPos ER (sndCell j c) 0 ∅ 0)
def toRecv (j : Fin 14) (c : Dev nD) : sProp 𝕄 := iprop(cred (tallyAt (rcvCell j c) () (amt j)) ∗ atPos ER (rcvCell j c) 0 ∅ 0)

/-- The send (receive) semaphore of transfer `j` is done with. -/
def sDone (j : Fin 14) (c : Dev nD) : sProp 𝕄 := semVal (sndCell j c) 0
def rDone (j : Fin 14) (c : Dev nD) : sProp 𝕄 := semVal (rcvCell j c) 0

variable {m K}

/-! ## Transfers -/

/-- Transfer `j` from `src` on `c` to `dst` on the device it goes to, given how its two payloads are made. -/
theorem run_send {α : Type} {Q : α → sProp 𝕄} {k : PUnit → Prog (TpuEff nD τ sig (Elt F) Λ₀ .tc) α}
    (c : Dev nD) (j : Fin 14) {s : Shape} {src dst : Memref sig .tc .vmem s .bf16} {sS sR : DmaSem sig} {d : Dev nD}
    (hS : sS = sndS j) (hR : sR = rcvS j) (hd : d = tgt j c) (hN : dst.view.dmaCredit = amt j)
    {hsc : (dst : Memref sig (Dev.tc d : Thread nD τ).2.kind .vmem s .bf16).view.ref.isScScratch = false}
    {hsrc : src.view.WordExact} {hdst : dst.view.WordExact}
    {hsem : DmaTarget.Typed .vmem (.dma sR) (.remote (Dev.tc d : Thread nD τ) (dst : Memref sig .tc .vmem s .bf16) (.dma sS) hsc)}
    {q : PosShare TreeShare} (fs : Buf (Elt F) (src.view.loc (c : Thread nD τ))) (fd : Buf (Elt F) (dst.view.loc (d : Thread nD τ)))
    (h₁ : (src.view.loc (c : Thread nD τ) ↦[src.view.set]{q} fs : sProp 𝕄) ⊢ sendPay m j c)
    (h₂ : (dst.view.loc (d : Thread nD τ) ↦[dst.view.set]{fullShare} (dst.view.write (Elt F) fd (src.view.read (Elt F) fs) Finset.univ) : sProp 𝕄)
      ⊢ recvPay m j d) :
    iprop(records m K ∗ owed c j ∗ toSend j c ∗ (src.view.loc (c : Thread nD τ) ↦[src.view.set]{q} fs) ∗ (dst.view.loc (d : Thread nD τ) ↦[dst.view.set]{fullShare} fd))
      ⊢ iprop(((owed c (j.val + 1) ∗ sent j c) -∗ run c (k ⟨⟩) Q)
          -∗ run c (.op (.enqueueDma src (.remote (Dev.tc d : Thread nD τ) dst (.dma sS) hsc) (.dma sR) hsrc hdst hsem) k) Q) := by
  subst hS hR hd
  unfold owed toSend sent
  iintro ⟨#HR, ⟨%W, HO⟩, ⟨HtS, HtR, Hat⟩, Hs, Hd⟩ Hk
  iapply (Rounds.wp_send_pointsTo 𝒱₀ ER (Rd m) (c : Thread nD τ) none (κ₁ := K (c, .inr (.inl j))) (κ₂ := K (tgt j c, .inr (.inr j)))
    (sem := .dma (rcvS j)) (r₁ := 0) (r₂ := 0) (d₁ := false) (d₂ := false) (fd := fd)
    (by rw [duties_snd]; exact Finset.mem_singleton_self _) (by rw [duties_rcv]; exact Finset.mem_singleton_self _)
    () () (amt j) hN (amount_snd m j c false) (amount_rcv m j _ false) (rem (j.val + 1) c) (rem_step j c) (W := W)
    (by rw [payload_snd]; exact h₁) (by rw [payload_rcv]; exact h₂)) $$ [HO HtS HtR Hs Hd]
  · isplitr; · iapply (records_inv m K (c, .inr (.inl j))); iexact HR
    isplitr; · iapply (records_inv m K (tgt j c, .inr (.inr j))); iexact HR
    isplitl [Hs]; · iexact Hs
    isplitl [Hd]; · iexact Hd
    isplitl [HO]; · iexact HO
    isplitl [HtS]; · iexact HtS
    isplitr; · iapply (records_reached m K (c, .inr (.inl j))); iexact HR
    isplitl [HtR]; · iexact HtR
    iapply (records_reached m K (tgt j c, .inr (.inr j))); iexact HR
  iintro ⟨Hc, HO⟩
  iapply Hk
  isplitl [HO]; · iexists W; iexact HO
  isplitl [Hc]; · iexact Hc
  iexact Hat

/-- A transfer between two places of the scratch arrays. -/
theorem run_send_slot {α : Type} {Q : α → sProp 𝕄} {k : PUnit → Prog (TpuEff nD τ sig (Elt F) Λ₀ .tc) α}
    (c : Dev nD) (j : Fin 14) (n : ℕ) (hj : j.val = n + 2) {src dst : Memref sig .tc .vmem S256x128 .bf16} {sS sR : DmaSem sig} {d : Dev nD}
    (q : PosShare TreeShare) (X : Vec F S256x128 .bf16)
    (hs : src = srcM n) (ht : dst = dstM n) (hX : X = val m n c) (hq : q = shr n)
    (hS : sS = sndS j) (hR : sR = rcvS j) (hd : d = tgt j c)
    {hsc : (dst : Memref sig (Dev.tc d : Thread nD τ).2.kind .vmem S256x128 .bf16).view.ref.isScScratch = false}
    {hsrc : src.view.WordExact} {hdst : dst.view.WordExact}
    {hsem : DmaTarget.Typed .vmem (.dma sR) (.remote (Dev.tc d : Thread nD τ) (dst : Memref sig .tc .vmem S256x128 .bf16) (.dma sS) hsc)} :
    iprop(records m K ∗ owed c j ∗ toSend j c ∗ owns (c : Thread nD τ) src q X ∗ free d dst)
      ⊢ iprop(((owed c (j.val + 1) ∗ sent j c) -∗ run c (k ⟨⟩) Q)
          -∗ run c (.op (.enqueueDma src (.remote (Dev.tc d : Thread nD τ) dst (.dma sS) hsc) (.dma sR) hsrc hdst hsem) k) Q) := by
  have hN : dst.view.dmaCredit = amt j := by
    subst ht; rw [hj]; unfold dstM amt; rw [if_neg (Nat.succ_ne_zero _)]
  unfold free owns
  iintro ⟨#HR, HO, Ht, ⟨%fs, %hfs, Hs⟩, ⟨%Y, %fd, %hfd, Hd⟩⟩
  iapply (run_send (m := m) (K := K) (q := q) c j hS hR hd hN fs fd
    (by
      rw [hj]; show _ ⊢ owns (c : Thread nD τ) (srcM n) (shr n) (val m n c)
      subst hs hq
      unfold owns
      iintro H; iexists fs
      isplitr; · ipureintro; rw [hfs, hX]
      iexact H)
    (by
      subst hd ht
      have e : recvPay m j (tgt j c) = owns ((tgt j c : Dev nD) : Thread nD τ) (dstM n) fullShare (val m n (tgt (n + 2) (tgt j c))) := by
        rw [show (j : ℕ) = n + 2 from hj]; rfl
      rw [e]; unfold owns
      iintro H; iexists ((dstM n).view.write (Elt F) fd (src.view.read (Elt F) fs) Finset.univ)
      isplitr
      · ipureintro; rw [View.read_write_univ, hfs, hX, ← hj, tgt_tgt]
      iexact H))
  isplitr; · iexact HR
  isplitl [HO]; · iexact HO
  isplitl [Ht]; · iexact Ht
  isplitl [Hs]; · iexact Hs
  iexact Hd

/-! ## Waits -/

/-- Wait for what transfer `j` brings. -/
theorem run_wait_recv {α : Type} {Q : α → sProp 𝕄} {k : PUnit → Prog (TpuEff nD τ sig (Elt F) Λ₀ .tc) α}
    (c : Dev nD) (j : Fin 14) (i : ℕ) (hi : j.val < i) {s s' : Shape} {e e' : EltTy} {sp sp' : Space} {src : Memref sig .tc sp' s' e'}
    {dst : Memref sig .tc sp s e} {sR : DmaSem sig} (hR : sR = rcvS j) (hN : dst.view.dmaCredit = amt j)
    {hsrc : src.view.WordExact} {hdst : dst.view.WordExact} (P : sProp 𝕄) (hP : recvPay m j c = P) :
    iprop(records m K ∗ levAts L lv ∗ owed c i ∗ toRecv j c)
      ⊢ iprop(((owed c i ∗ rDone j c ∗ P) -∗ run c (k ⟨⟩) Q) -∗ run c (.op (.waitDma2 sR src dst hsrc hdst) k) Q) := by
  subst hR hP
  unfold owed toRecv rDone
  iintro ⟨#HR, #HL, ⟨%W, HO⟩, Hc, Hat⟩ Hk
  iapply (Rounds.wp_wait_rest_token 𝒱₀ ER (Rd m) (c : Thread nD τ) none (κ := K (c, .inr (.inr j)))
      (wpE_waitDma2_eq 𝒱₀ (c : Thread nD τ) none Set.univ) (Set.mem_univ _) () (O := rem i c) (W := W) (R := 0) (m := 0) (T := ∅)
      (by rw [Nat.zero_add, hN, expect_rcv])) $$ [Hc HO Hat]
  · isplitr; · iapply (records_inv m K (c, .inr (.inr j))); iexact HR
    isplitl [Hc]; · rw [hN]; iexact Hc
    isplitl [HO]; · iexact HO
    isplitr; · iapply (mayWait_rcv c j i hi); iexact HL
    iexact Hat
  iintro ⟨HO, Hat, -, Hpay⟩
  ihave Hp := (Entails.of_eq (rest_rcv m j c)) $$ Hpay
  imod (Rounds.cell_close ER (Rd m) (Set.mem_univ (K (c, .inr (.inr j)))) (fun h => h) (R := 0 + 1) (duties_later m (rcvCell j c))) $$ [Hat] with Hz
  · isplitr; · iapply (records_inv m K (c, .inr (.inr j))); iexact HR
    iexact Hat
  iapply Hk
  isplitl [HO]; · iexists _; iexact HO
  isplitl [Hz]; · iexact Hz
  iexact Hp

/-- Wait for transfer `j` to have read its source. -/
theorem run_wait_send {α : Type} {Q : α → sProp 𝕄} {k : PUnit → Prog (TpuEff nD τ sig (Elt F) Λ₀ .tc) α}
    (c : Dev nD) (j : Fin 14) {s s' : Shape} {e e' : EltTy} {sp sp' : Space} {src : Memref sig .tc sp' s' e'}
    {dst : Memref sig .tc sp s e} {sS : DmaSem sig} (hS : sS = sndS j) (hN : dst.view.dmaCredit = amt j)
    {hsrc : src.view.WordExact} {hdst : dst.view.WordExact} (P : sProp 𝕄) (hP : sendPay m j c = P) :
    iprop(records m K ∗ owed c 14 ∗ sent j c)
      ⊢ iprop(((owed c 14 ∗ sDone j c ∗ P) -∗ run c (k ⟨⟩) Q) -∗ run c (.op (.waitDma2 sS src dst hsrc hdst) k) Q) := by
  subst hS hP
  unfold owed sent sDone
  rw [rem_last]
  iintro ⟨#HR, ⟨%W, HO⟩, Hc, Hat⟩ Hk
  iapply (Rounds.wp_wait_rest_token 𝒱₀ ER (Rd m) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, hN, expect_snd])) $$ [Hc HO Hat]
  · isplitr; · iapply (records_inv m K (c, .inr (.inl j))); iexact HR
    isplitl [Hc]; · rw [hN]; iexact Hc
    isplitl [HO]; · iexact HO
    isplitr; · rw [MayWait_zero]; iempintro
    iexact Hat
  iintro ⟨HO, Hat, -, Hpay⟩
  ihave Hp := (Entails.of_eq (rest_snd m j c)) $$ Hpay
  imod (Rounds.cell_close ER (Rd m) (Set.mem_univ (K (c, .inr (.inl j)))) (fun h => h) (R := 0 + 1) (duties_later m (sndCell j c))) $$ [Hat] with Hz
  · isplitr; · iapply (records_inv m K (c, .inr (.inl j))); iexact HR
    iexact Hat
  iapply Hk
  isplitl [HO]; · iexists _; iexact HO
  isplitl [Hz]; · iexact Hz
  iexact Hp

/-! ## Loads and stores -/

/-- A load from a buffer all of which is held. -/
theorem run_load_all {α : Type} {Q : α → sProp 𝕄} (c : Dev nD) {cs : CoreSpace} {sh : Shape} {e : EltTy} (M : Memref sig .tc cs sh e) {r : LoadRect sh} {hl : M.view.LoadsAt r}
    {q : PosShare TreeShare} (f : Buf (Elt F) (M.view.loc (c : Thread nD τ))) {X : r.shape.Idx → Elt F e} (hX : M.view.readAt (Elt F) r f = X)
    {k : (r.shape.Idx → Elt F e) → Prog (TpuEff nD τ sig (Elt F) Λ₀ .tc) α} :
    ((M.view.loc (c : Thread nD τ) ↦{q} f) : sProp 𝕄)
      ⊢ iprop(((M.view.loc (c : Thread nD τ) ↦{q} f) -∗ run c (k X) Q) -∗ run c (.op (.load M r hl) k) Q) := by
  subst hX
  exact wp_load 𝒱₀ (c : Thread nD τ) none Set.univ (Finset.subset_univ _)

/-- The elements of a place are those its rectangle accesses. -/
theorem slot_view_set (M : Memref sig .tc .vmem S3x2x256x128 .bf16) (l : Fin 3) (h : Fin 2) :
    (slot M l h).view.set = M.view.setOn (slotR l h).set :=
  (Memref.set_view_squeeze _ _).trans (View.set_slice M.view (slotR l h))

/-- A place has the elements of half the rows. -/
theorem slot_casts (l : Fin 3) (h : Fin 2) : (slotR l h).shape.ShapeCasts S256x128 := by decide +revert

/-- A load of a place of a scratch array. -/
theorem run_load_slot {α : Type} {Q : α → sProp 𝕄} (c : Dev nD) (M : Memref sig .tc .vmem S3x2x256x128 .bf16) (l : Fin 3) (h : Fin 2) {r : Rect S3x2x256x128} (hr : r = slotR l h)
    {hl} {q : PosShare TreeShare} (X : Vec F S256x128 .bf16) {k : (r.shape.Idx → Elt F .bf16) → Prog (TpuEff nD τ sig (Elt F) Λ₀ .tc) α} :
    (owns (c : Thread nD τ) (slot M l h) q X : sProp 𝕄)
      ⊢ iprop((∀ v : r.shape.Idx → Elt F .bf16, ⌜∀ hc : r.shape.ShapeCasts S256x128, shapeCast S256x128 v hc = X⌝ -∗ owns (c : Thread nD τ) (slot M l h) q X -∗ run c (k v) Q)
          -∗ run c (.op (.load M r.toLoadRect hl) k) Q) := by
  subst hr
  unfold owns
  iintro ⟨%f, %hf, H⟩ Hk
  iapply (wp_load 𝒱₀ (c : Thread nD τ) none Set.univ (m := M) (r := (slotR l h).toLoadRect) (S := (slot M l h).view.set)
    (slot_view_set M l h).ge) $$ H
  iintro H
  iapply Hk $$ []
  · ipureintro; exact fun hc => hf
  iexists f
  isplitr; · ipureintro; exact hf
  iexact H

/-- A store to a place of a scratch array. -/
theorem run_store_slot {α : Type} {Q : α → sProp 𝕄} {k : PUnit → Prog (TpuEff nD τ sig (Elt F) Λ₀ .tc) α}
    (c : Dev nD) (M : Memref sig .tc .vmem S3x2x256x128 .bf16) (l : Fin 3) (h : Fin 2) {r : Rect S3x2x256x128} (hr : r = slotR l h)
    (X : Vec F S256x128 .bf16) {w : r.shape.Idx → Elt F .bf16} (hw : ∀ hc : r.shape.ShapeCasts S256x128, shapeCast S256x128 w hc = X)
    {hx : (M.access r).Stores Finset.univ} {hm} :
    (free c (slot M l h) : sProp 𝕄)
      ⊢ iprop((owns (c : Thread nD τ) (slot M l h) fullShare X -∗ run c (k ⟨⟩) Q)
          -∗ run c (.op (.store M r w Finset.univ hx hm) k) Q) := by
  subst hr
  unfold free owns
  iintro ⟨%Y, %f, -, H⟩ Hk
  iapply (wp_store 𝒱₀ (c : Thread nD τ) none Set.univ (m := M) (r := slotR l h) (Mk := Finset.univ) (S := (slot M l h).view.set)
    (Memref.set_view_squeeze _ _).ge) $$ H
  iintro H
  iapply Hk
  iexists _
  isplitr; · ipureintro; exact (congrArg (fun v => shapeCast S256x128 v (slot_casts l h)) (View.read_write_univ (v := M.access (slotR l h)) f w)).trans (hw _)
  iexact H

/-- A load of a place whatever it holds. -/
theorem run_load_free {α : Type} {Q : α → sProp 𝕄} (c : Dev nD) (M : Memref sig .tc .vmem S3x2x256x128 .bf16) (l : Fin 3) (h : Fin 2) {r : Rect S3x2x256x128} (hr : r = slotR l h)
    {hl} {k : (r.shape.Idx → Elt F .bf16) → Prog (TpuEff nD τ sig (Elt F) Λ₀ .tc) α} :
    (free c (slot M l h) : sProp 𝕄)
      ⊢ iprop((∀ v : r.shape.Idx → Elt F .bf16, free c (slot M l h) -∗ run c (k v) Q) -∗ run c (.op (.load M r.toLoadRect hl) k) Q) := by
  unfold free
  iintro ⟨%Y, H⟩ Hk
  iapply (run_load_slot c M l h hr Y) $$ H
  iintro %v - H
  iapply Hk
  iexists Y; iexact H

/-- A place that is owned whole is free, -/
theorem free_intro (c : Dev nD) (M : Memref sig .tc .vmem S256x128 .bf16) (X : Vec F S256x128 .bf16) :
    (owns (c : Thread nD τ) M fullShare X : sProp 𝕄) ⊢ free c M := by
  unfold free; iintro H; iexists X; iexact H

/-- The two halves of a place's share. -/
theorem owns_halves (c : Dev nD) (M : Memref sig .tc .vmem S256x128 .bf16) (X : Vec F S256x128 .bf16) :
    (owns (c : Thread nD τ) M fullShare X : sProp 𝕄) ⊢ iprop(owns (c : Thread nD τ) M fullShare.left X ∗ owns (c : Thread nD τ) M fullShare.right X) := by
  unfold owns
  iintro ⟨%f, %hf, H⟩
  ihave H2 := (pointsTo_share (PosShare.mem_left_op_right fullShare)).1 $$ H
  icases H2 with ⟨H1, H2⟩
  isplitl [H1]
  · iexists f; isplitr; · ipureintro; exact hf
    iexact H1
  · iexists f; isplitr; · ipureintro; exact hf
    iexact H2

/-- and so is one of which both halves are back. -/
theorem free_of_halves (c : Dev nD) (M : Memref sig .tc .vmem S256x128 .bf16) (X Y : Vec F S256x128 .bf16) :
    iprop(owns (c : Thread nD τ) M fullShare.left X ∗ owns (c : Thread nD τ) M fullShare.right Y) ⊢ (free c M : sProp 𝕄) := by
  unfold free owns
  iintro ⟨⟨%f, %hf, H1⟩, ⟨%g, %hg, H2⟩⟩
  ihave H := (persistent_entails_right pointsTo_agree) $$ [H1 H2]
  · isplitl [H1] <;> iassumption
  icases H with ⟨%hfg, H1, H2⟩
  ihave H2' := (Entails.of_eq (pointsTo_congr (fun i hi => ((hfg i (Finset.mem_inter.mpr ⟨hi, hi⟩)).1).symm))) $$ H2
  iexists X; iexists f
  isplitr; · ipureintro; exact hf
  iapply (pointsTo_share (PosShare.mem_left_op_right fullShare)).2
  isplitl [H1] <;> iassumption

end Cert.KernelIdeal.Mlp

end
-- ==== Proof.Mlp.KernelIdeal.XSteps.lean ====
/-
The gathered activations: how what is held of them is divided and joined, and the steps that move, write and read them.
-/
module

public import proofs.«01_k».proof.Proof.Mlp.KernelIdeal.Steps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-! ## The gathered activations: dividing and joining what is held of them -/

/-- Rows that are held fall into two parts; -/
theorem x_cut (c : Dev nD) {S T U : Finset S512x128.Idx} (hd : Disjoint S T) (hu : S ∪ T = U) (q : PosShare TreeShare) (f : S512x128.Idx → Elt F .bf16) :
    (xPts c U q f : sProp 𝕄) ⊣⊢ iprop(xPts c S q f ∗ xPts c T q f) := by
  subst hu; unfold xPts; exact pointsTo_union hd

/-- and a share of them into two halves. -/
theorem x_half (c : Dev nD) (S : Finset S512x128.Idx) (q : PosShare TreeShare) (f : S512x128.Idx → Elt F .bf16) :
    (xPts c S q f : sProp 𝕄) ⊣⊢ iprop(xPts c S q.left f ∗ xPts c S q.right f) := by
  unfold xPts; exact pointsTo_share (PosShare.mem_left_op_right q)

/-- At the start: its own rows stay, its pair's and the other pair's are given away. -/
theorem x_open (c : Dev nD) (f : S512x128.Idx → Elt F .bf16) :
    (xPts c Finset.univ fullShare f : sProp 𝕄)
      ⊢ iprop(xPts c (Row c) fullShare f ∗ xPts c (Row (pa c)) fullShare f ∗ xPts c (Pair (pb c)) fullShare f) := by
  iintro H
  ihave H := (x_cut c (Pair_disj c) (Pair_union c) fullShare f).1 $$ H
  icases H with ⟨H, H3⟩
  ihave H := (x_cut c (Row_disj c) (Row_union c) fullShare f).1 $$ H
  icases H with ⟨H1, H2⟩
  isplitl [H1]; · iexact H1
  isplitl [H2]; · iexact H2
  iexact H3

/-- Its own rows: a part lent to the first transfer, a part kept, a part for the second transfer. -/
theorem x_own (c : Dev nD) (S : Finset S512x128.Idx) (f : S512x128.Idx → Elt F .bf16) :
    (xPts c S fullShare f : sProp 𝕄)
      ⊣⊢ iprop(xPts c S fullShare.left.left f ∗ xPts c S fullShare.left.right f ∗ xPts c S fullShare.right f) := by
  constructor
  · iintro H
    ihave H := (x_half c S fullShare f).1 $$ H
    icases H with ⟨H, H3⟩
    ihave H := (x_half c S fullShare.left f).1 $$ H
    icases H with ⟨H1, H2⟩
    isplitl [H1]; · iexact H1
    isplitl [H2]; · iexact H2
    iexact H3
  · iintro ⟨H1, H2, H3⟩
    iapply (x_half c S fullShare f).2
    isplitr [H3]
    · iapply (x_half c S fullShare.left f).2
      isplitl [H1] <;> iassumption
    iexact H3

/-- When its pair's rows have come: half of both rows is lent to the second transfer. -/
theorem x_pair (c : Dev nD) (f : S512x128.Idx → Elt F .bf16) :
    iprop(xPts c (Row c) fullShare.right f ∗ xPts c (Row (pa c)) fullShare f)
      ⊢ (iprop(xPts c (Pair c) fullShare.right f ∗ xPts c (Row (pa c)) fullShare.left f) : sProp 𝕄) := by
  iintro ⟨H1, H2⟩
  ihave H := (x_half c (Row (pa c)) fullShare f).1 $$ H2
  icases H with ⟨H2, H3⟩
  isplitr [H2]
  · iapply (x_cut c (Row_disj c) (Row_union c) fullShare.right f).2
    isplitl [H1] <;> iassumption
  iexact H2

/-- What is put aside while all rows are read. -/
def xRest (c : Dev nD) (f : S512x128.Idx → Elt F .bf16) : sProp 𝕄 :=
  iprop(xPts c (Row (pa c)) fullShare.left.left f ∗ xPts c (Pair (pb c)) fullShare.left.left f ∗ xPts c (Pair (pb c)) fullShare.right f)

/-- When the other pair's rows have come: a part of all rows, to read. -/
theorem x_all (c : Dev nD) (f : S512x128.Idx → Elt F .bf16) :
    iprop(xPts c (Row c) fullShare.left.right f ∗ xPts c (Row (pa c)) fullShare.left f ∗ xPts c (Pair (pb c)) fullShare f)
      ⊢ (iprop(xPts c Finset.univ fullShare.left.right f ∗ xRest c f) : sProp 𝕄) := by
  unfold xRest
  iintro ⟨H1, H2, H3⟩
  ihave H := (x_half c (Row (pa c)) fullShare.left f).1 $$ H2
  icases H with ⟨H2, H2'⟩
  ihave H := (x_own c (Pair (pb c)) f).1 $$ H3
  icases H with ⟨H3, H3', H3''⟩
  isplitl [H1 H2' H3']
  · iapply (x_cut c (Pair_disj c) (Pair_union c) fullShare.left.right f).2
    isplitr [H3']
    · iapply (x_cut c (Row_disj c) (Row_union c) fullShare.left.right f).2
      isplitl [H1] <;> iassumption
    iexact H3'
  isplitl [H2]; · iexact H2
  isplitl [H3]; · iexact H3
  iexact H3''

/-- At the end, with the two transfers' parts back: all rows, wholly. -/
theorem x_close (c : Dev nD) (f : S512x128.Idx → Elt F .bf16) :
    iprop(xPts c Finset.univ fullShare.left.right f ∗ xRest c f ∗ xPts c (Row c) fullShare.left.left f ∗ xPts c (Pair c) fullShare.right f)
      ⊢ (xPts c Finset.univ fullShare f : sProp 𝕄) := by
  unfold xRest
  iintro ⟨H, ⟨H1, H2, H3⟩, H4, H5⟩
  iapply (x_own c Finset.univ f).2
  isplitl [H1 H2 H4]
  · iapply (x_cut c (Pair_disj c) (Pair_union c) fullShare.left.left f).2
    isplitr [H2]
    · iapply (x_cut c (Row_disj c) (Row_union c) fullShare.left.left f).2
      isplitl [H4] <;> iassumption
    iexact H2
  isplitl [H]; · iexact H
  iapply (x_cut c (Pair_disj c) (Pair_union c) fullShare.right f).2
  isplitl [H5] <;> iassumption

/-! ## The gathered activations: contents -/

/-- Copying rows of `f` from one device's array into the same rows of another's leaves `f` there. -/
theorem copy_eq (r : Rect S512x128) (hr : ∀ a, r.stride a = 1) (f g : S512x128.Idx → Elt F .bf16) :
    ∀ i ∈ r.set, (xM.slice r hr).view.write (Elt F) g ((xM.slice r hr).view.read (Elt F) f) Finset.univ i = f i := by
  intro i hi
  rw [← View.set_slice_whole (κ := .tc) cc0_scratch0 r] at hi
  obtain ⟨j, -, rfl⟩ := Finset.mem_map.mp hi
  exact View.write_emb_of_mem _ _ (Finset.mem_univ j)

/-- A transfer of rows of the gathered activations. -/
theorem run_send_x {α : Type} {Q : α → sProp 𝕄} {k : PUnit → Prog (TpuEff nD τ sig (Elt F) Λ₀ .tc) α}
    (c : Dev nD) (j : Fin 14) (r : Rect S512x128) (hr : ∀ a, r.stride a = 1) {src dst : Memref sig .tc .vmem r.shape .bf16}
    {sS sR : DmaSem sig} {d : Dev nD} (hs : src = xM.slice r hr) (ht : dst = xM.slice r hr)
    (hS : sS = sndS j) (hR : sR = rcvS j) (hd : d = tgt j c) (hN : (xM.slice r hr).view.dmaCredit = amt j) (q : PosShare TreeShare)
    (h₁ : (xPts c r.set q (G m) : sProp 𝕄) = sendPay m j c) (h₂ : (xPts d r.set fullShare (G m) : sProp 𝕄) = recvPay m j d)
    {hsc : (dst : Memref sig (Dev.tc d : Thread nD τ).2.kind .vmem r.shape .bf16).view.ref.isScScratch = false}
    {hsrc : src.view.WordExact} {hdst : dst.view.WordExact}
    {hsem : DmaTarget.Typed .vmem (.dma sR) (.remote (Dev.tc d : Thread nD τ) (dst : Memref sig .tc .vmem r.shape .bf16) (.dma sS) hsc)} :
    iprop(records m K ∗ owed c j ∗ toSend j c ∗ xPts c r.set q (G m) ∗ ∃ f, xPts d r.set fullShare f)
      ⊢ iprop(((owed c (j.val + 1) ∗ sent j c) -∗ run c (k ⟨⟩) Q)
          -∗ run c (.op (.enqueueDma src (.remote (Dev.tc d : Thread nD τ) dst (.dma sS) hsc) (.dma sR) hsrc hdst hsem) k) Q) := by
  subst hs ht
  have e : (xM.slice r hr).view.set = r.set := View.set_slice_whole cc0_scratch0 r
  iintro ⟨#HR, HO, Ht, Hs, ⟨%f, Hd⟩⟩
  iapply (run_send (m := m) (K := K) (q := q) c j hS hR hd hN (src := xM.slice r hr) (dst := xM.slice r hr) (G m) f
    (by rw [← h₁]; unfold xPts; rw [e])
    (by
      rw [← h₂]; unfold xPts
      rw [e]
      exact Entails.of_eq (pointsTo_congr (copy_eq r hr (G m) f))))
  isplitr; · iexact HR
  isplitl [HO]; · iexact HO
  isplitl [Ht]; · iexact Ht
  isplitl [Hs]
  · unfold xPts; rw [e]; iexact Hs
  · unfold xPts; rw [e]; iexact Hd

/-- The store of its own rows. -/
theorem run_store_x {α : Type} {Q : α → sProp 𝕄} {k : PUnit → Prog (TpuEff nD τ sig (Elt F) Λ₀ .tc) α}
    (c : Dev nD) {inb} {hx : (xM.access (Rect.unit (s := S512x128) (k0_off1 c) S128x128.size inb)).Stores Finset.univ} {hm} :
    iprop(∃ f, xPts c (Row c) fullShare f)
      ⊢ iprop((xPts c (Row c) fullShare (G m) -∗ run c (k ⟨⟩) Q)
          -∗ run c (.op (.store xM (Rect.unit (s := S512x128) (k0_off1 c) S128x128.size inb) (k0_pay1 (xs m c)) Finset.univ hx hm) k) Q) := by
  have e : (xM.access (Rect.unit (s := S512x128) (k0_off1 c) S128x128.size inb)).set = Row c := by
    refine (View.set_slice_whole cc0_scratch0 _).trans ?_
    ext i; unfold Row; rw [Rect.mem_set_unit, Rect.mem_set_unit, k0_off1_eq, k0_off2_eq]; exact Iff.rfl
  have ec : ∀ f : S512x128.Idx → Elt F .bf16, ∀ i ∈ Row c,
      (xM.access (Rect.unit (s := S512x128) (k0_off1 c) S128x128.size inb)).write (Elt F) f (k0_pay1 (xs m c)) Finset.univ i = G m i := by
    intro f i hi
    rw [← e] at hi
    obtain ⟨j, -, rfl⟩ := Finset.mem_map.mp hi
    refine (View.write_emb_of_mem _ _ (Finset.mem_univ j)).trans ?_
    have hj : (j 0).val < 128 := (j 0).isLt
    have e0 : (((xM.access (Rect.unit (s := S512x128) (k0_off1 c) S128x128.size inb)).emb j : S512x128.Idx) 0).val = 128 * c.val + (j 0).val := by
      show (k0_off1 c) 0 + 1 * (j 0).val = _
      have h0 : k0_off1 c 0 = 128 * c.val := congrFun (k0_off1_eq c) 0
      omega
    have e1 : (((xM.access (Rect.unit (s := S512x128) (k0_off1 c) S128x128.size inb)).emb j : S512x128.Idx) 1).val = (j 1).val := by
      show (k0_off1 c) 1 + 1 * (j 1).val = _
      have h0 : k0_off1 c 1 = 0 := congrFun (k0_off1_eq c) 1
      omega
    unfold G
    have hc : (⟨(((xM.access (Rect.unit (s := S512x128) (k0_off1 c) S128x128.size inb)).emb j : S512x128.Idx) 0).val / 128, Nat.div_lt_of_lt_mul (Fin.isLt _)⟩ : Dev nD) = c :=
      Fin.ext (by show _ / 128 = c.val; rw [e0]; omega)
    have hi : ix (p := 128) (q := 128) ⟨(((xM.access (Rect.unit (s := S512x128) (k0_off1 c) S128x128.size inb)).emb j : S512x128.Idx) 0).val % 128, Nat.mod_lt _ (by decide)⟩
        (((xM.access (Rect.unit (s := S512x128) (k0_off1 c) S128x128.size inb)).emb j : S512x128.Idx) 1) = j := by
      funext a; fin_cases a
      · exact Fin.ext (by show _ % 128 = (j 0).val; rw [e0]; omega)
      · exact Fin.ext e1
    rw [hi]
    exact congrArg (fun d => k0_pay1 (xs m d) j) hc.symm
  iintro ⟨%f, H⟩ Hk
  iapply (wp_store 𝒱₀ (c : Thread nD τ) none Set.univ (m := xM) (r := Rect.unit (s := S512x128) (k0_off1 c) S128x128.size inb) (Mk := Finset.univ) (S := Row c)
    e.le) $$ [H]
  · unfold xPts; iexact H
  iintro H
  iapply Hk
  unfold xPts
  iapply (Entails.of_eq (pointsTo_congr (ec f))) $$ H

/-- A load of its own rows, whatever they hold. -/
theorem run_load_row {α : Type} {Q : α → sProp 𝕄} (c : Dev nD) {inb} {hl}
    {k : ((Rect.unit (s := S512x128) (k0_off1 c) S128x128.size inb).toLoadRect.shape.Idx → Elt F .bf16) → Prog (TpuEff nD τ sig (Elt F) Λ₀ .tc) α}
    (f : S512x128.Idx → Elt F .bf16) :
    (xPts c (Row c) fullShare f : sProp 𝕄)
      ⊢ iprop((∀ v, xPts c (Row c) fullShare f -∗ run c (k v) Q)
          -∗ run c (.op (.load xM (Rect.unit (s := S512x128) (k0_off1 c) S128x128.size inb).toLoadRect hl) k) Q) := by
  have e : xM.view.setOn (Rect.unit (s := S512x128) (k0_off1 c) S128x128.size inb).toLoadRect.set = Row c := by
    refine (View.set_slice xM.view (Rect.unit (s := S512x128) (k0_off1 c) S128x128.size inb)).symm.trans ((View.set_slice_whole cc0_scratch0 _).trans ?_)
    ext i; unfold Row; rw [Rect.mem_set_unit, Rect.mem_set_unit, k0_off1_eq, k0_off2_eq]; exact Iff.rfl
  iintro H Hk
  iapply (wp_load 𝒱₀ (c : Thread nD τ) none Set.univ (m := xM) (r := (Rect.unit (s := S512x128) (k0_off1 c) S128x128.size inb).toLoadRect) (S := Row c) e.le) $$ [H]
  · unfold xPts; iexact H
  iintro H
  iapply Hk
  unfold xPts; iexact H

/-- A load of half `h` of the gathered activations. -/
theorem run_load_x {α : Type} {Q : α → sProp 𝕄} (c : Dev nD) (h : Fin 2) {off : Fin 2 → ℕ} (ho : off = ![256 * h.val, 0]) {inb} {hl} {q : PosShare TreeShare}
    {k : ((Rect.unit (s := S512x128) off S256x128.size inb).toLoadRect.shape.Idx → Elt F .bf16) → Prog (TpuEff nD τ sig (Elt F) Λ₀ .tc) α} :
    (xPts c Finset.univ q (G m) : sProp 𝕄)
      ⊢ iprop((xPts c Finset.univ q (G m) -∗ run c (k (gHalf m h)) Q)
          -∗ run c (.op (.load xM (Rect.unit (s := S512x128) off S256x128.size inb).toLoadRect hl) k) Q) := by
  subst ho
  have hX : xM.view.readAt (Elt F) (Rect.unit (s := S512x128) ![256 * h.val, 0] S256x128.size inb).toLoadRect (G m) = gHalf m h := by
    funext i
    unfold gHalf
    refine congrArg (G m) (funext fun a => ?_)
    fin_cases a
    · exact Fin.ext (by show 256 * h.val + 1 * (i 0).val = _; rw [one_mul]; rfl)
    · exact Fin.ext (by show 0 + 1 * (i 1).val = _; rw [one_mul, Nat.zero_add]; rfl)
  unfold xPts
  exact run_load_all c xM (q := q) (G m) hX

end Cert.KernelIdeal.Mlp

end
-- ==== Proof.Mlp.KernelIdeal.Gather.lean ====
/-
The first parts of the body: the handshake and the two transfers that gather the activations.
-/
module

public import proofs.«01_k».proof.Proof.Mlp.KernelIdeal.XSteps

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-- A part of the body at the launch's memrefs. -/
abbrev onArgs {β : Type 1}
    (p : (arg0 : Memref sig .tc .vmem S128x128 .f32) → arg0.IsWhole → (arg1 : Memref sig .tc .vmem S128x256 .f32) → arg1.IsWhole →
      (arg2 : Memref sig .tc .vmem S256x128 .f32) → arg2.IsWhole → (arg3 : Memref sig .tc .vmem S128x256 .f32) → arg3.IsWhole →
      (arg4 : Memref sig .tc .vmem S256x128 .f32) → arg4.IsWhole → (arg5 : Memref sig .tc .vmem S128x256 .f32) → arg5.IsWhole →
      (arg6 : Memref sig .tc .vmem S256x128 .f32) → arg6.IsWhole → (arg7 : Memref sig .tc .vmem S512x128 .f32) → arg7.IsWhole →
      (arg8 : Memref sig .tc .vmem S512x128 .bf16) → arg8.IsWhole → (arg9 : Memref sig .tc .vmem S3x2x256x128 .bf16) → arg9.IsWhole →
      (arg10 : Memref sig .tc .vmem S3x2x256x128 .bf16) → arg10.IsWhole → (arg11 : Memref sig .tc .vmem S3x2x256x128 .bf16) → arg11.IsWhole →
      (arg12 : Memref sig .tc .vmem S3x2x256x128 .bf16) → arg12.IsWhole → DmaSems sig S14 → DmaSems sig S14 → β) : β :=
  p (Memref.whole cc0_stg0_0) (Memref.isWhole_whole _) (Memref.whole cc0_stg1_0) (Memref.isWhole_whole _) (Memref.whole cc0_stg2_0) (Memref.isWhole_whole _)
    (Memref.whole cc0_stg3_0) (Memref.isWhole_whole _) (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    xM (Memref.isWhole_whole _) pM (Memref.isWhole_whole _) aM (Memref.isWhole_whole _) sM (Memref.isWhole_whole _) bM (Memref.isWhole_whole _)
    cc0_scratch5 cc0_scratch6

/-- A staging buffer with known contents. -/
abbrev stg (c : Dev nD) (b : Ref sig .tc) (f : Buf (Elt F) ((c : Thread nD τ).loc b)) : sProp 𝕄 := ((c : Thread nD τ).loc b) ↦{fullShare} f

/-- The zero offsets of a matrix. -/
theorem hz : (![0, 0] : Fin 2 → Nat) = fun _ => 0 := funext fun a => by fin_cases a <;> rfl

/-! ## The handshake -/

/-- A signal to the barrier of `pa c` or `pb c`. -/
theorem run_signal {α : Type} {Q : α → sProp 𝕄} {k : PUnit → Prog (TpuEff nD τ sig (Elt F) Λ₀ .tc) α} (c d e : Dev nD) (he : e = d) (b : Bool)
    (O O' : CellTallies nD τ sig Unit) (hO : O' = O + tallyAt (barCell d) () 1) (W : Waits sig Unit) :
    iprop(records m K ∗ owes (c : Thread nD τ) O' W ∗ dutyTok ER (barCell d) 0 b ∗ barPay d b)
      ⊢ iprop((owes (c : Thread nD τ) O W -∗ run c (k ⟨⟩) Q) -∗ run c (.op (.semSignal (e, Proc.tc) barS (1#32).toInt) k) Q) := by
  subst he
  iintro ⟨#HR, HO, Ht, Hp⟩ Hk
  iapply (Rounds.wp_signal 𝒱₀ ER (Rd m) (c : Thread nD τ) none (dst := (e : Thread nD τ)) (κ := K (e, .inl ()))
      (d := b) (by rw [duties_bar]; exact Finset.mem_univ _) ((amount_bar m e b).trans (by decide)) () O hO)
    $$ [HO Ht Hp]
  · isplitr; · iapply (records_inv m K (e, .inl ())); iexact HR
    isplitl [HO]; · iexact HO
    isplitl [Ht]; · iexact Ht
    isplitl [Hp]; · rw [payload_bar]; iexact Hp
    iapply (records_reached m K (e, .inl ())); iexact HR
  iexact Hk

/-- The wait for both signals. -/
theorem run_wait_bar {α : Type} {Q : α → sProp 𝕄} {k : PUnit → Prog (TpuEff nD τ sig (Elt F) Λ₀ .tc) α} (c : Dev nD) (W : Waits sig Unit) :
    iprop(records m K ∗ levAts L lv ∗ owes (c : Thread nD τ) (rem 0 c) W ∗ cred (tallyAt (barCell c) () 2) ∗ atPos ER (barCell c) 0 ∅ 0)
      ⊢ iprop(((owed c 0 ∗ semVal (barCell c) 0 ∗ barPay c true ∗ barPay c false) -∗ run c (k ⟨⟩) Q)
        -∗ run c (.op (.semWait barS (2#32).toInt) k) Q) := by
  unfold owed
  iintro ⟨#HR, #HL, HO, Hc, Hat⟩ Hk
  iapply (Rounds.wp_wait_rest_token 𝒱₀ ER (Rd m) (c : Thread nD τ) none (κ := K (c, .inl ()))
      (wpE_semWait_eq 𝒱₀ (c : Thread nD τ) none Set.univ) (Set.mem_univ _) () (O := rem 0 c) (W := W) (R := 0) (m := 0) (T := ∅)
      (by rw [expect_bar]; decide)) $$ [Hc HO Hat]
  · isplitr; · iapply (records_inv m K (c, .inl ())); iexact HR
    isplitl [Hc]; · iexact Hc
    isplitl [HO]; · iexact HO
    isplitr; · iapply (mayWait_bar c); iexact HL
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iapply (records_inv m K (c, .inl ())); iexact HR
    iexact Hat
  iapply Hk
  isplitl [HO]; · iexists _; iexact HO
  isplitl [Hz]; · iexact Hz
  iexact Hp

/-- The device number that expression 1 of the body computes. -/
theorem dev1_eq (c : Dev nD) {h} : (⟨k0_dev1 c, h⟩ : Dev nD) = pa c := by revert c; decide +kernel
/-- The device number that expression 2 of the body computes. -/
theorem dev2_eq (c : Dev nD) {h} : (⟨k0_dev2 c, h⟩ : Dev nD) = pb c := by revert c; decide +kernel
/-- The device number that expression 3 of the body computes. -/
theorem dev3_eq (c : Dev nD) {h} : (⟨k0_dev3 c, h⟩ : Dev nD) = pa c := by revert c; decide +kernel
/-- The device number that expression 4 of the body computes. -/
theorem dev4_eq (c : Dev nD) {h} : (⟨k0_dev4 c, h⟩ : Dev nD) = pb c := by revert c; decide +kernel

/-- The scratch places on the two other devices that `c` copies into. -/
def places (c : Dev nD) : sProp 𝕄 :=
  iprop((free (pa c) (slot aM 0 0) ∗ free (pa c) (slot bM 0 1) ∗ free (pa c) (slot aM 1 0) ∗ free (pa c) (slot bM 1 1)
      ∗ free (pa c) (slot aM 2 0) ∗ free (pa c) (slot bM 2 1))
    ∗ free (pb c) (slot aM 0 1) ∗ free (pb c) (slot bM 0 0) ∗ free (pb c) (slot aM 1 1) ∗ free (pb c) (slot bM 1 0)
      ∗ free (pb c) (slot aM 2 1) ∗ free (pb c) (slot bM 2 0))

set_option maxRecDepth 65536 in
/-- The handshake, the device's own rows written, and the first transfer. -/
theorem run_part1 (c : Dev nD) {Q : (Σ' (d0 : Dev nD) (v2 : BitVec 32) (v3 : BitVec 32), BitVec 32) → sProp 𝕄} :
    iprop(records m K ∗ levAts L lv ∗ (∃ W, owes (c : Thread nD τ) (O₀ c) W)
        ∗ (dutyTok ER (barCell (pa c)) 0 true ∗ dutyTok ER (barCell (pb c)) 0 false ∗ cred (tallyAt (barCell c) () 2) ∗ atPos ER (barCell c) 0 ∅ 0)
        ∗ (barPay (pa c) true ∗ barPay (pb c) false ∗ ∃ f, xPts c (Row c) fullShare f)
        ∗ stg c cc0_stg0_0 (xs m c) ∗ toSend 0 c)
      ⊢ iprop((∀ v2 v3 v4, (owed c 1 ∗ sent 0 c ∗ semVal (barCell c) 0 ∗ places c ∗ (∃ f, xPts (pb c) (Pair c) fullShare f)
            ∗ (xPts c (Row c) fullShare.left.right (G m) ∗ xPts c (Row c) fullShare.right (G m)) ∗ stg c cc0_stg0_0 (xs m c)) -∗ Q ⟨c, v2, v3, v4⟩)
        -∗ run c (onArgs (k0_part1 (F := F))) Q) := by
  rw [k0_part1_eq_skeleton]; unfold k0_part1_skel onArgs
  simp only [semSignalWord, semWaitWord, Prog.lift, Prog.bind_op, Prog.bind_ret, Prog.pure_eq_ret, Prog.bind_assoc, wp_deviceId]
  iintro ⟨#HR, #HL, ⟨%W, HO⟩, ⟨Ht1, Ht2, Hc, Hat⟩, ⟨Hp1, Hp2, ⟨%f, Hx⟩⟩, Hs, Hsend⟩ Hk
  iapply (run_signal c (pa c) _ (dev1_eq c) true (O₁ c) (O₀ c) rfl W) $$ [HO Ht1 Hp1]
  · isplitr; · iexact HR
    isplitl [HO]; · iexact HO
    isplitl [Ht1] <;> iassumption
  iintro HO
  iapply (run_signal c (pb c) _ (dev2_eq c) false (rem 0 c) (O₁ c) rfl W) $$ [HO Ht2 Hp2]
  · isplitr; · iexact HR
    isplitl [HO]; · iexact HO
    isplitl [Ht2] <;> iassumption
  iintro HO
  iapply (run_wait_bar c W) $$ [HO Hc Hat]
  · isplitr; · iexact HR
    isplitr; · iexact HL
    isplitl [HO]; · iexact HO
    isplitl [Hc] <;> iassumption
  unfold barPay
  iintro ⟨HO, Hz, ⟨Hxa, Hpa⟩, Hxb, Hpb⟩
  iapply (run_load_all c (Memref.whole cc0_stg0_0) (xs m c) (Memref.readAt_unit_zero (Elt F) cc0_stg0_0 hz _ (xs m c))) $$ Hs
  iintro Hs
  iapply (run_load_row c f) $$ Hx
  iintro %v Hx
  iapply (run_store_x c) $$ [Hx]
  · iexists f; iexact Hx
  iintro Hx
  ihave Hx := (x_own c (Row c) (G m)).1 $$ Hx
  icases Hx with ⟨Hx1, Hx2, Hx3⟩
  iapply (run_send_x c 0 (Rect.unit (s := S512x128) (k0_off2 c) S128x128.size (k0_off2_inb c)) (fun _ => rfl) rfl rfl rfl rfl (dev3_eq c) rfl
    fullShare.left.left rfl (by rw [dev3_eq]; exact congrArg (fun d => xPts (F := F) (pa c) (Row d) fullShare (G m)) (pa_pa c).symm)) $$ [HO Hsend Hx1 Hxa]
  · isplitr; · iexact HR
    isplitl [HO]; · iexact HO
    isplitl [Hsend]; · iexact Hsend
    isplitl [Hx1]; · iexact Hx1
    rw [dev3_eq]; iexact Hxa
  iintro ⟨HO, Hsent⟩
  unfold run
  rw [wp_ret]; imodintro
  iapply Hk
  isplitl [HO]; · iexact HO
  isplitl [Hsent]; · iexact Hsent
  isplitl [Hz]; · iexact Hz
  isplitl [Hpa Hpb]
  · unfold places; isplitl [Hpa] <;> iassumption
  isplitl [Hxb]; · iexact Hxb
  isplitl [Hx2 Hx3]
  · isplitl [Hx2] <;> iassumption
  iexact Hs

end Cert.KernelIdeal.Mlp

end
-- ==== Proof.Mlp.KernelIdeal.Pay.lean ====
/-
What the body computes between its steps, and the devices its transfers name.
-/
module

public import proofs.«01_k».proof.Proof.Mlp.KernelIdeal.Gather
public import Idealize.ShloMosaic.Lib.Pipeline.Value

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-! ## What is computed between the steps -/

/-- Arrays seen as a place of a scratch array and back. -/
theorem cast_back (w : Vec F S256x128 .bf16) {h} {h'} : shapeCast S256x128 (shapeCast S1x1x256x128 w h) h' = w := by
  exact shapeCast_shapeCast w h h'

/-- The first layer multiplies the gathered activations; -/
theorem pw_first (h : Fin 2) (c : Dev nD) : pw m 0 h c = part (up (gHalf m h)) (w0 m c) (v0 m c) := rfl
/-- the second what the first layer's exchanges left; -/
theorem pw_second (h : Fin 2) (c : Dev nD) : pw m 1 h c = part (addf (up (sn m 0 h c)) (up (sn m 0 h (st2 h c)))) (w1 m c) (v1 m c) := rfl
/-- and the third what the second's left. -/
theorem pw_third (h : Fin 2) (c : Dev nD) : pw m 2 h c = part (addf (up (sn m 1 h c)) (up (sn m 1 h (st2 h c)))) (w2 m c) (v2 m c) := rfl
/-- What is sent first is the partial product, narrowed; -/
theorem pn_eq (l : ℕ) (h : Fin 2) (c : Dev nD) : pn m l h c = dn (pw m l h c) := rfl
/-- what is sent next is its sum with what came, narrowed; -/
theorem sn_eq (l : ℕ) (h : Fin 2) (c : Dev nD) : sn m l h c = dn (addf (pw m l h c) (up (pn m l h (st1 h c)))) := rfl
/-- and the result is the sum of the last layer's two sums. -/
theorem act_last (h : Fin 2) (c : Dev nD) : act m 3 h c = addf (up (sn m 2 h c)) (up (sn m 2 h (st2 h c))) := rfl

/-- What part 3 hands on. -/
theorem part3_eq (c : Dev nD) : (⟨k0_pay2 (gHalf m 1), k0_pay3 (gHalf m 0) (w0 m c) (v0 m c), k0_pay5 (w0 m c)⟩ :
      Σ' (_ : FVec F S256x128 .f32) (_ : FVec F S256x128 .f32), FVec F S128x256 .f32)
    = ⟨up (gHalf m 1), pw m 0 0 c, k0_pay5 (w0 m c)⟩ := rfl

/-- What is read from a place, by what it holds. -/
abbrev Reads {s : Shape} (v : s.Idx → Elt F .bf16) (X : Vec F S256x128 .bf16) : Prop := ∀ hc : s.ShapeCasts S256x128, shapeCast S256x128 v hc = X

section
variable {a b : Vec F S1x1x256x128 .bf16} {X Y : Vec F S256x128 .bf16} (p : FVec F S256x128 .f32)

/-- Stored expression 8: a partial product plus what came, narrowed for sending. -/
theorem pay8_reads (ha : Reads a X) : Reads (k0_pay8 p a) (dn (addf p (up X))) := fun hc => by
  rw [← ha shapeCasts_S1x1x256x128_S256x128]; exact cast_back _
/-- Stored expression 9: a partial product plus what came, narrowed for sending. -/
theorem pay9_reads (ha : Reads a X) : Reads (k0_pay9 p a) (dn (addf p (up X))) := fun hc => by
  rw [← ha shapeCasts_S1x1x256x128_S256x128]; exact cast_back _
/-- Stored expression 24: a partial product plus what came, narrowed for sending. -/
theorem pay24_reads (ha : Reads a X) : Reads (k0_pay24 p a) (dn (addf p (up X))) := fun hc => by
  rw [← ha shapeCasts_S1x1x256x128_S256x128]; exact cast_back _
/-- Stored expression 25: a partial product plus what came, narrowed for sending. -/
theorem pay25_reads (ha : Reads a X) : Reads (k0_pay25 p a) (dn (addf p (up X))) := fun hc => by
  rw [← ha shapeCasts_S1x1x256x128_S256x128]; exact cast_back _
/-- A partial product plus what came. -/
theorem pay15_eq (ha : Reads a X) : k0_pay15 p a = addf p (up X) := by rw [← ha shapeCasts_S1x1x256x128_S256x128]; rfl
/-- A stored partial product is its narrowed form. -/
theorem pay16_reads : Reads (k0_pay16 p) (dn p) := fun hc => cast_back _
/-- A widened load is what the place holds, wide. -/
theorem pay17_eq (ha : Reads a X) : k0_pay17 a = up X := by rw [← ha shapeCasts_S1x1x256x128_S256x128]; rfl
/-- A stored sum of two wide arrays is that sum narrowed. -/
theorem pay18_reads (q : FVec F S256x128 .f32) : Reads (k0_pay18 p q) (dn (addf p q)) := fun hc => cast_back _
/-- A narrow load is what the place holds. -/
theorem pay19_eq (ha : Reads a X) : k0_pay19 a = X := ha _
/-- Expression 26: the sum kept plus the sum received. -/
theorem pay26_eq (ha : Reads a X) (hb : Reads b Y) : k0_pay26 a b = addf (up X) (up Y) := by
  rw [← ha shapeCasts_S1x1x256x128_S256x128, ← hb shapeCasts_S1x1x256x128_S256x128]; rfl
/-- Expression 27: the sum kept plus the sum received. -/
theorem pay27_eq (ha : Reads a X) (hb : Reads b Y) : k0_pay27 a b = addf (up X) (up Y) := by
  rw [← ha shapeCasts_S1x1x256x128_S256x128, ← hb shapeCasts_S1x1x256x128_S256x128]; rfl

variable (w : Vec F S128x256 .f32) (v : Vec F S256x128 .f32)

/-- The first partial product of a layer, narrowed for sending. -/
theorem pay4_reads (x : Vec F S256x128 .bf16) : Reads (k0_pay4 x w v) (dn (part (up x) w v)) := fun hc => cast_back _
/-- The kernel's expression for a partial product is the part of a layer. -/
theorem pay6_eq : k0_pay6 p (k0_pay5 w) v = part p w v := rfl
/-- The same for the other half. -/
theorem pay7_reads : Reads (k0_pay7 p (k0_pay5 w) v) (dn (part p w v)) := fun hc => cast_back _
/-- Expression 10: the part of a layer at the sum kept plus the sum received. -/
theorem pay10_eq (ha : Reads a X) (hb : Reads b Y) : k0_pay10 a b w v = part (addf (up X) (up Y)) w v := by
  rw [← ha shapeCasts_S1x1x256x128_S256x128, ← hb shapeCasts_S1x1x256x128_S256x128]; rfl
/-- Expression 11: the same part, narrowed for sending. -/
theorem pay11_reads (ha : Reads a X) (hb : Reads b Y) : Reads (k0_pay11 a b w v) (dn (part (addf (up X) (up Y)) w v)) := fun hc => by
  rw [← pay10_eq w v ha hb]; exact cast_back _
/-- Expression 12: the part of a layer at the sum kept plus the sum received. -/
theorem pay12_eq (ha : Reads a X) (hb : Reads b Y) : k0_pay12 a b w v = part (addf (up X) (up Y)) w v := by
  rw [← ha shapeCasts_S1x1x256x128_S256x128, ← hb shapeCasts_S1x1x256x128_S256x128]; rfl
/-- Expression 13: the same part, narrowed for sending. -/
theorem pay13_eq (ha : Reads a X) (hb : Reads b Y) : k0_pay13 a b w v = dn (part (addf (up X) (up Y)) w v) := by
  rw [← pay12_eq w v ha hb]; rfl
/-- Storing narrow values keeps them. -/
theorem pay14_reads (x : Vec F S256x128 .bf16) : Reads (k0_pay14 x) x := fun hc => cast_back _
/-- Expression 20: the part of a layer at the sum kept plus the sum received. -/
theorem pay20_eq (hb : Reads b Y) : k0_pay20 X b w v = part (addf (up X) (up Y)) w v := by
  rw [← hb shapeCasts_S1x1x256x128_S256x128]; rfl
/-- Expression 21: the same part, narrowed for sending. -/
theorem pay21_reads (hb : Reads b Y) : Reads (k0_pay21 X b w v) (dn (part (addf (up X) (up Y)) w v)) := fun hc => by
  rw [← pay20_eq w v hb]; exact cast_back _
/-- Expression 22: the part of a layer at the sum kept plus the sum received. -/
theorem pay22_eq (ha : Reads a X) (hb : Reads b Y) : k0_pay22 a b w v = part (addf (up X) (up Y)) w v := by
  rw [← ha shapeCasts_S1x1x256x128_S256x128, ← hb shapeCasts_S1x1x256x128_S256x128]; rfl
/-- Expression 23: the same part, narrowed for sending. -/
theorem pay23_reads (ha : Reads a X) (hb : Reads b Y) : Reads (k0_pay23 a b w v) (dn (part (addf (up X) (up Y)) w v)) := fun hc => by
  rw [← pay22_eq w v ha hb]; exact cast_back _

end

/-! ## The devices the transfers name -/

/-- The device number that expression 5 of the body computes. -/
theorem dev5_eq (c : Dev nD) {h} : (⟨k0_dev5 c, h⟩ : Dev nD) = pa c := by revert c; decide +kernel
/-- The device number that expression 6 of the body computes. -/
theorem dev6_eq (c : Dev nD) {h} : (⟨k0_dev6 c, h⟩ : Dev nD) = pb c := by revert c; decide +kernel
/-- The device number that expression 7 of the body computes. -/
theorem dev7_eq (c : Dev nD) {h} : (⟨k0_dev7 c, h⟩ : Dev nD) = pb c := by revert c; decide +kernel
/-- The device number that expression 8 of the body computes. -/
theorem dev8_eq (c : Dev nD) {h} : (⟨k0_dev8 c, h⟩ : Dev nD) = pa c := by revert c; decide +kernel
/-- The device number that expression 9 of the body computes. -/
theorem dev9_eq (c : Dev nD) {h} : (⟨k0_dev9 c, h⟩ : Dev nD) = pa c := by revert c; decide +kernel
/-- The device number that expression 10 of the body computes. -/
theorem dev10_eq (c : Dev nD) {h} : (⟨k0_dev10 c, h⟩ : Dev nD) = pb c := by revert c; decide +kernel
/-- The device number that expression 11 of the body computes. -/
theorem dev11_eq (c : Dev nD) {h} : (⟨k0_dev11 c, h⟩ : Dev nD) = pb c := by revert c; decide +kernel
/-- The device number that expression 12 of the body computes. -/
theorem dev12_eq (c : Dev nD) {h} : (⟨k0_dev12 c, h⟩ : Dev nD) = pa c := by revert c; decide +kernel
/-- The device number that expression 13 of the body computes. -/
theorem dev13_eq (c : Dev nD) {h} : (⟨k0_dev13 c, h⟩ : Dev nD) = pa c := by revert c; decide +kernel
/-- The device number that expression 14 of the body computes. -/
theorem dev14_eq (c : Dev nD) {h} : (⟨k0_dev14 c, h⟩ : Dev nD) = pb c := by revert c; decide +kernel
/-- The device number that expression 15 of the body computes. -/
theorem dev15_eq (c : Dev nD) {h} : (⟨k0_dev15 c, h⟩ : Dev nD) = pb c := by revert c; decide +kernel
/-- The device number that expression 16 of the body computes. -/
theorem dev16_eq (c : Dev nD) {h} : (⟨k0_dev16 c, h⟩ : Dev nD) = pa c := by revert c; decide +kernel

/-- What transfer `j` needs and what it leaves, between named places. -/
theorem run_put {α : Type} {Q : α → sProp 𝕄} {k : PUnit → Prog (TpuEff nD τ sig (Elt F) Λ₀ .tc) α} (c : Dev nD) (n : ℕ) (hn : n + 2 < 14)
    {src dst : Memref sig .tc .vmem S256x128 .bf16} {sS sR : DmaSem sig} {d e : Dev nD}
    (q : PosShare TreeShare) (X : Vec F S256x128 .bf16) (hd : d = e) (he : e = tgt (n + 2) c)
    (hs : src = srcM n) (ht : dst = dstM n) (hX : X = val m n c) (hq : q = shr n)
    (hS : sS = sndS ⟨n + 2, hn⟩) (hR : sR = rcvS ⟨n + 2, hn⟩)
    {hsc : (dst : Memref sig (Dev.tc d : Thread nD τ).2.kind .vmem S256x128 .bf16).view.ref.isScScratch = false}
    {hsrc : src.view.WordExact} {hdst : dst.view.WordExact}
    {hsem : DmaTarget.Typed .vmem (.dma sR) (.remote (Dev.tc d : Thread nD τ) (dst : Memref sig .tc .vmem S256x128 .bf16) (.dma sS) hsc)} :
    iprop(records m K ∗ owed c (n + 2) ∗ toSend ⟨n + 2, hn⟩ c ∗ owns (c : Thread nD τ) src q X ∗ free e dst)
      ⊢ iprop(((owed c (n + 3) ∗ sent ⟨n + 2, hn⟩ c) -∗ run c (k ⟨⟩) Q)
          -∗ run c (.op (.enqueueDma src (.remote (Dev.tc d : Thread nD τ) dst (.dma sS) hsc) (.dma sR) hsrc hdst hsem) k) Q) := by
  subst hd
  exact run_send_slot c ⟨n + 2, hn⟩ n rfl q X hs ht hX hq hS hR he

/-- The credit of the first copy is that of its rows; -/
theorem amt_row (c : Dev nD) : (rowM c).view.dmaCredit = amt 0 := rfl
/-- of the second that of a pair of rows; -/
theorem amt_pair (c : Dev nD) : (pairM c).view.dmaCredit = amt 1 := rfl
/-- and of every later one that of a place. -/
theorem amt_slot (n : ℕ) (M : Memref sig .tc .vmem S256x128 .bf16) : M.view.dmaCredit = amt (n + 2) := by
  unfold amt; rw [if_neg (Nat.succ_ne_zero _)]

/-- The wait for what transfer `n + 2` brings. -/
theorem run_take {α : Type} {Q : α → sProp 𝕄} {k : PUnit → Prog (TpuEff nD τ sig (Elt F) Λ₀ .tc) α} (c : Dev nD) (n : ℕ) (hn : n + 2 < 14)
    (i : ℕ) (hi : n + 2 < i) {s' : Shape} {e' : EltTy} {sp' : Space} {src : Memref sig .tc sp' s' e'}
    (dst : Memref sig .tc .vmem S256x128 .bf16) (ht : dst = dstM n) (e : Dev nD) (he : e = tgt (n + 2) c) (X : Vec F S256x128 .bf16) (hX : X = val m n e)
    {sR : DmaSem sig} (hR : sR = rcvS ⟨n + 2, hn⟩) {hsrc : src.view.WordExact} {hdst : dst.view.WordExact} :
    iprop(records m K ∗ levAts L lv ∗ owed c i ∗ toRecv ⟨n + 2, hn⟩ c)
      ⊢ iprop(((owed c i ∗ rDone ⟨n + 2, hn⟩ c ∗ owns (c : Thread nD τ) dst fullShare X) -∗ run c (k ⟨⟩) Q)
          -∗ run c (.op (.waitDma2 sR src dst hsrc hdst) k) Q) :=
  run_wait_recv c ⟨n + 2, hn⟩ i hi hR (amt_slot n dst) _ (by subst ht; subst he; subst hX; rfl)

/-- The wait for the source of transfer `n + 2`. -/
theorem run_back {α : Type} {Q : α → sProp 𝕄} {k : PUnit → Prog (TpuEff nD τ sig (Elt F) Λ₀ .tc) α} (c : Dev nD) (n : ℕ) (hn : n + 2 < 14)
    {s' : Shape} {e' : EltTy} {sp' : Space} {src : Memref sig .tc sp' s' e'} (dst : Memref sig .tc .vmem S256x128 .bf16) {sS : DmaSem sig}
    (hS : sS = sndS ⟨n + 2, hn⟩) {hsrc : src.view.WordExact} {hdst : dst.view.WordExact} :
    iprop(records m K ∗ owed c 14 ∗ sent ⟨n + 2, hn⟩ c)
      ⊢ iprop(((owed c 14 ∗ sDone ⟨n + 2, hn⟩ c ∗ owns (c : Thread nD τ) (srcM n) (shr n) (val m n c)) -∗ run c (k ⟨⟩) Q)
          -∗ run c (.op (.waitDma2 sS src dst hsrc hdst) k) Q) :=
  run_wait_send c ⟨n + 2, hn⟩ hS (amt_slot n dst) _ rfl

/-- The end of a part. -/
theorem run_ret {α : Type} {Q : α → sProp 𝕄} (c : Dev nD) {x y : α} (h : x = y) :
    Q y ⊢ run c (.ret x : Prog (TpuEff nD τ sig (Elt F) Λ₀ .tc) α) Q := by
  subst h; unfold run; rw [wp_ret]; iintro H; imodintro; iexact H

end Cert.KernelIdeal.Mlp

end
-- ==== Proof.Mlp.KernelIdeal.Layer0.lean ====
/-
Parts 2 to 5 of the body: the rows of `x` reach every device, and the first layer's partial products are sent.
-/
module

public import proofs.«01_k».proof.Proof.Mlp.KernelIdeal.Pay

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-- Part 2 sends the pair of rows on when the other row has come. -/
theorem run_part2 (c : Dev nD) (v2 v4 : BitVec 32) {Q : PUnit → sProp 𝕄} :
    iprop(records m K ∗ levAts L lv ∗ owed c 1 ∗ toRecv 0 c ∗ toSend 1 c ∗ xPts c (Row c) fullShare.right (G m)
        ∗ ∃ f, xPts (pb c) (Pair c) fullShare f)
      ⊢ iprop(((owed c 2 ∗ rDone 0 c ∗ sent 1 c ∗ xPts c (Row (pa c)) fullShare.left (G m)) -∗ Q ⟨⟩)
        -∗ run c (onArgs (k0_part2 (F := F)) c v2 v4) Q) := by
  rw [k0_part2_eq_skeleton]; unfold k0_part2_skel onArgs
  simp only [Prog.lift, Prog.bind_op, Prog.bind_ret, Prog.pure_eq_ret, Prog.bind_assoc]
  iintro ⟨#HR, #HL, HO, Ht, Hs, Hx, Hd⟩ Hk
  iapply (run_wait_recv c 0 1 (by decide) (dst := rowM c) rfl (amt_row c) (xPts c (Row (pa c)) fullShare (G m)) rfl) $$ [HO Ht]
  · iframe HR HL HO Ht
  iintro ⟨HO, Hr, Hxa⟩
  ihave Hx := (x_pair c (G m)) $$ [Hx Hxa]
  · iframe Hx Hxa
  icases Hx with ⟨Hx, Hxa⟩
  iapply (run_send_x c 1 (Rect.unit (s := S512x128) (k0_off3 c) S256x128.size (k0_off3_inb c)) (fun _ => rfl) rfl rfl rfl rfl (dev4_eq c) (amt_pair c)
    fullShare.right rfl (by rw [dev4_eq]; exact congrArg (fun d => xPts (F := F) (pb c) (Pair d) fullShare (G m)) (pb_pb c).symm)) $$ [HO Hs Hx Hd]
  · rw [dev4_eq]; iframe HR HO Hs Hx Hd
  iintro ⟨HO, Hs⟩
  iapply (run_ret c rfl)
  iapply Hk
  iframe HO Hr Hs Hxa

set_option maxRecDepth 65536 in
/-- Part 3 reads the whole of `x` and sends the first half's partial product. -/
theorem run_part3 (c : Dev nD) (v3 : BitVec 32) {Q : (Σ' (v67 : FVec F S256x128 .f32) (v75 : FVec F S256x128 .f32), FVec F S128x256 .f32) → sProp 𝕄} :
    iprop(records m K ∗ levAts L lv ∗ owed c 2 ∗ toRecv 1 c ∗ xPts c (Row c) fullShare.left.right (G m) ∗ xPts c (Row (pa c)) fullShare.left (G m)
        ∗ stg c cc0_stg1_0 (w0 m c) ∗ stg c cc0_stg2_0 (v0 m c) ∗ free c (slot pM 0 0) ∗ toSend 2 c ∗ free (pa c) (slot aM 0 0))
      ⊢ iprop(((owed c 3 ∗ rDone 1 c ∗ (xPts c Finset.univ fullShare.left.right (G m) ∗ xRest c (G m))
            ∗ stg c cc0_stg1_0 (w0 m c) ∗ stg c cc0_stg2_0 (v0 m c) ∗ sent 2 c) -∗ Q ⟨up (gHalf m 1), pw m 0 0 c, k0_pay5 (w0 m c)⟩)
        -∗ run c (onArgs (k0_part3 (F := F)) c v3) Q) := by
  rw [k0_part3_eq_skeleton]; unfold k0_part3_skel onArgs
  simp only [Prog.lift, Prog.bind_op, Prog.bind_ret, Prog.pure_eq_ret, Prog.bind_assoc]
  iintro ⟨#HR, #HL, HO, Ht, Hx, Hxa, Hw, Hv, Hp, Hs, Hd⟩ Hk
  iapply (run_wait_recv c 1 2 (by decide) (dst := pairM c) rfl (amt_pair c) (xPts c (Pair (pb c)) fullShare (G m)) rfl) $$ [HO Ht]
  · iframe HR HL HO Ht
  iintro ⟨HO, Hr, Hxb⟩
  ihave Hx := (x_all c (G m)) $$ [Hx Hxa Hxb]
  · iframe Hx Hxa Hxb
  icases Hx with ⟨Hx, Hrest⟩
  iapply (run_load_x c 0 rfl) $$ Hx
  iintro Hx
  iapply (run_load_x c 1 rfl) $$ Hx
  iintro Hx
  iapply (run_load_all c (Memref.whole cc0_stg1_0) (w0 m c) (Memref.readAt_unit_zero (Elt F) cc0_stg1_0 hz _ (w0 m c))) $$ Hw
  iintro Hw
  iapply (run_load_all c (Memref.whole cc0_stg2_0) (v0 m c) (Memref.readAt_unit_zero (Elt F) cc0_stg2_0 hz _ (v0 m c))) $$ Hv
  iintro Hv
  iapply (run_load_free c pM 0 0 rfl) $$ Hp
  iintro %_ Hp
  iapply (run_store_slot c pM 0 0 rfl (pn m 0 0 c) (pay4_reads (w0 m c) (v0 m c) (gHalf m 0))) $$ Hp
  iintro Hp
  iapply (run_put c 0 (by decide) fullShare (pn m 0 0 c) (dev5_eq c) rfl rfl rfl rfl rfl rfl rfl) $$ [HO Hs Hp Hd]
  · iframe HR HO Hs Hp Hd
  iintro ⟨HO, Hs⟩
  iapply (run_load_all c (Memref.whole cc0_stg1_0) (w0 m c) (Memref.readAt_unit_zero (Elt F) cc0_stg1_0 hz _ (w0 m c))) $$ Hw
  iintro Hw
  iapply (run_ret c (part3_eq c))
  iapply Hk
  iframe HO Hr Hx Hrest Hw Hv Hs

set_option maxRecDepth 65536 in
/-- Part 4 sends the second half's partial product. -/
theorem run_part4 (c : Dev nD) (v3 v4 : BitVec 32) {Q : FVec F S256x128 .f32 → sProp 𝕄} :
    iprop(records m K ∗ owed c 3 ∗ stg c cc0_stg2_0 (v0 m c) ∗ free c (slot pM 0 1) ∗ toSend 3 c ∗ free (pb c) (slot aM 0 1))
      ⊢ iprop(((owed c 4 ∗ stg c cc0_stg2_0 (v0 m c) ∗ sent 3 c) -∗ Q (pw m 0 1 c))
        -∗ run c (onArgs (k0_part4 (F := F)) c v3 v4 (up (gHalf m 1)) (k0_pay5 (w0 m c))) Q) := by
  rw [k0_part4_eq_skeleton]; unfold k0_part4_skel onArgs
  simp only [Prog.lift, Prog.bind_op, Prog.bind_ret, Prog.pure_eq_ret, Prog.bind_assoc]
  iintro ⟨#HR, HO, Hv, Hp, Hs, Hd⟩ Hk
  iapply (run_load_all c (Memref.whole cc0_stg2_0) (v0 m c) (Memref.readAt_unit_zero (Elt F) cc0_stg2_0 hz _ (v0 m c))) $$ Hv
  iintro Hv
  iapply (run_load_free c pM 0 1 rfl) $$ Hp
  iintro %_ Hp
  iapply (run_store_slot c pM 0 1 rfl (pn m 0 1 c) (pay7_reads (up (gHalf m 1)) (w0 m c) (v0 m c))) $$ Hp
  iintro Hp
  iapply (run_put c 1 (by decide) fullShare (pn m 0 1 c) (dev6_eq c) rfl rfl rfl rfl rfl rfl rfl) $$ [HO Hs Hp Hd]
  · iframe HR HO Hs Hp Hd
  iintro ⟨HO, Hs⟩
  iapply (run_ret c ((pay6_eq (up (gHalf m 1)) (w0 m c) (v0 m c)).trans (pw_first 1 c).symm))
  iapply Hk
  iframe HO Hv Hs

set_option maxRecDepth 65536 in
/-- Part 5 adds the first half's partial product that came, and sends the sum. -/
theorem run_part5 (c : Dev nD) (v4 : BitVec 32) {Q : PUnit → sProp 𝕄} :
    iprop(records m K ∗ levAts L lv ∗ owed c 4 ∗ toRecv 2 c ∗ free c (slot sM 0 0) ∗ toSend 4 c ∗ free (pb c) (slot bM 0 0))
      ⊢ iprop(((owed c 5 ∗ rDone 2 c ∗ free c (slot aM 0 0) ∗ owns (c : Thread nD τ) (slot sM 0 0) fullShare.right (sn m 0 0 c) ∗ sent 4 c) -∗ Q ⟨⟩)
        -∗ run c (onArgs (k0_part5 (F := F)) c v4 (pw m 0 0 c)) Q) := by
  rw [k0_part5_eq_skeleton]; unfold k0_part5_skel onArgs
  simp only [Prog.lift, Prog.bind_op, Prog.bind_ret, Prog.pure_eq_ret, Prog.bind_assoc]
  iintro ⟨#HR, #HL, HO, Ht, Hp, Hs, Hd⟩ Hk
  iapply (run_take c 0 (by decide) 4 (by decide) (slot aM 0 0) rfl (pa c) rfl (pn m 0 0 (pa c)) rfl rfl) $$ [HO Ht]
  · iframe HR HL HO Ht
  iintro ⟨HO, Hr, Ha⟩
  iapply (run_load_slot c aM 0 0 rfl (pn m 0 0 (pa c))) $$ Ha
  iintro %a %ha Ha
  iapply (run_load_free c sM 0 0 rfl) $$ Hp
  iintro %_ Hp
  iapply (run_store_slot c sM 0 0 rfl (sn m 0 0 c) (pay8_reads (pw m 0 0 c) ha)) $$ Hp
  iintro Hp
  ihave Hp := (owns_halves c (slot sM 0 0) (sn m 0 0 c)) $$ Hp
  icases Hp with ⟨Hp, Hq⟩
  iapply (run_put c 2 (by decide) fullShare.left (sn m 0 0 c) (dev7_eq c) rfl rfl rfl rfl rfl rfl rfl) $$ [HO Hs Hp Hd]
  · iframe HR HO Hs Hp Hd
  iintro ⟨HO, Hs⟩
  iapply (run_ret c rfl)
  iapply Hk
  iframe HO Hr Hq Hs
  iapply free_intro $$ Ha

end Cert.KernelIdeal.Mlp

end
-- ==== Proof.Mlp.KernelIdeal.Layer1.lean ====
/-
Parts 6 to 11 of the body: the second layer.
-/
module

public import proofs.«01_k».proof.Proof.Mlp.KernelIdeal.Layer0

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

set_option maxRecDepth 65536 in
/-- Part 6 adds the second half's partial product that came, and sends the sum. -/
theorem run_part6 (c : Dev nD) (v3 v4 : BitVec 32) {Q : PUnit → sProp 𝕄} :
    iprop(records m K ∗ levAts L lv ∗ owed c 5 ∗ toRecv 3 c ∗ free c (slot sM 0 1) ∗ toSend 5 c ∗ free (pa c) (slot bM 0 1))
      ⊢ iprop(((owed c 6 ∗ rDone 3 c ∗ free c (slot aM 0 1) ∗ owns (c : Thread nD τ) (slot sM 0 1) fullShare.right (sn m 0 1 c) ∗ sent 5 c) -∗ Q ⟨⟩)
        -∗ run c (onArgs (k0_part6 (F := F)) c v3 v4 (pw m 0 1 c)) Q) := by
  rw [k0_part6_eq_skeleton]; unfold k0_part6_skel onArgs
  simp only [Prog.lift, Prog.bind_op, Prog.bind_ret, Prog.pure_eq_ret, Prog.bind_assoc]
  iintro ⟨#HR, #HL, HO, Ht, Hp, Hs, Hd⟩ Hk
  iapply (run_take c 1 (by decide) 5 (by decide) (slot aM 0 1) rfl (pb c) rfl (pn m 0 1 (pb c)) rfl rfl) $$ [HO Ht]
  · iframe HR HL HO Ht
  iintro ⟨HO, Hr, Ha⟩
  iapply (run_load_slot c aM 0 1 rfl (pn m 0 1 (pb c))) $$ Ha
  iintro %a %ha Ha
  iapply (run_load_free c sM 0 1 rfl) $$ Hp
  iintro %_ Hp
  iapply (run_store_slot c sM 0 1 rfl (sn m 0 1 c) (pay9_reads (pw m 0 1 c) ha)) $$ Hp
  iintro Hp
  ihave Hp := (owns_halves c (slot sM 0 1) (sn m 0 1 c)) $$ Hp
  icases Hp with ⟨Hp, Hq⟩
  iapply (run_put c 3 (by decide) fullShare.left (sn m 0 1 c) (dev8_eq c) rfl rfl rfl rfl rfl rfl rfl) $$ [HO Hs Hp Hd]
  · iframe HR HO Hs Hp Hd
  iintro ⟨HO, Hs⟩
  iapply (run_ret c rfl)
  iapply Hk
  iframe HO Hr Hq Hs
  iapply free_intro $$ Ha

set_option maxRecDepth 65536 in
/-- Part 7 starts the second layer's first half from the two sums. -/
theorem run_part7 (c : Dev nD) (v3 : BitVec 32) {Q : FVec F S256x128 .f32 → sProp 𝕄} :
    iprop(records m K ∗ levAts L lv ∗ owed c 6 ∗ toRecv 4 c ∗ owns (c : Thread nD τ) (slot sM 0 0) fullShare.right (sn m 0 0 c)
        ∗ stg c cc0_stg3_0 (w1 m c) ∗ stg c cc0_stg4_0 (v1 m c) ∗ free c (slot pM 1 0))
      ⊢ iprop(((owed c 6 ∗ rDone 4 c ∗ owns (c : Thread nD τ) (slot sM 0 0) fullShare.right (sn m 0 0 c) ∗ free c (slot bM 0 0)
            ∗ stg c cc0_stg3_0 (w1 m c) ∗ stg c cc0_stg4_0 (v1 m c) ∗ owns (c : Thread nD τ) (slot pM 1 0) fullShare (pn m 1 0 c)) -∗ Q (pw m 1 0 c))
        -∗ run c (onArgs (k0_part7 (F := F)) v3) Q) := by
  rw [k0_part7_eq_skeleton]; unfold k0_part7_skel onArgs
  simp only [Prog.lift, Prog.bind_op, Prog.bind_ret, Prog.pure_eq_ret, Prog.bind_assoc]
  iintro ⟨#HR, #HL, HO, Ht, Ha, Hw, Hv, Hp⟩ Hk
  iapply (run_take c 2 (by decide) 6 (by decide) (slot bM 0 0) rfl (pb c) rfl (sn m 0 0 (pb c)) rfl rfl) $$ [HO Ht]
  · iframe HR HL HO Ht
  iintro ⟨HO, Hr, Hb⟩
  iapply (run_load_slot c sM 0 0 rfl (sn m 0 0 c)) $$ Ha
  iintro %a %ha Ha
  iapply (run_load_slot c bM 0 0 rfl (sn m 0 0 (pb c))) $$ Hb
  iintro %b %hb Hb
  iapply (run_load_all c (Memref.whole cc0_stg3_0) (w1 m c) (Memref.readAt_unit_zero (Elt F) cc0_stg3_0 hz _ (w1 m c))) $$ Hw
  iintro Hw
  iapply (run_load_all c (Memref.whole cc0_stg4_0) (v1 m c) (Memref.readAt_unit_zero (Elt F) cc0_stg4_0 hz _ (v1 m c))) $$ Hv
  iintro Hv
  iapply (run_load_free c pM 1 0 rfl) $$ Hp
  iintro %_ Hp
  iapply (run_store_slot c pM 1 0 rfl (pn m 1 0 c) (pay11_reads (w1 m c) (v1 m c) ha hb)) $$ Hp
  iintro Hp
  iapply (run_ret c ((pay10_eq (w1 m c) (v1 m c) ha hb).trans (pw_second 0 c).symm))
  iapply Hk
  iframe HO Hr Ha Hw Hv Hp
  iapply free_intro $$ Hb

/-- What part 8 hands on. -/
theorem part8_eq (c : Dev nD) {a b : Vec F S1x1x256x128 .bf16} (ha : Reads a (sn m 0 1 c)) (hb : Reads b (sn m 0 1 (pa c))) :
    (⟨k0_pay12 a b (w1 m c) (v1 m c), k0_pay13 a b (w1 m c) (v1 m c)⟩ : Σ' (_ : FVec F S256x128 .f32), FVec F S256x128 .bf16)
      = ⟨pw m 1 1 c, pn m 1 1 c⟩ := by
  rw [pay12_eq _ _ ha hb, pay13_eq _ _ ha hb]; rfl

set_option maxRecDepth 65536 in
/-- Part 8 sends the first half's partial product and starts the second half. -/
theorem run_part8 (c : Dev nD) (v3 : BitVec 32) {Q : (Σ' (_ : FVec F S256x128 .f32), FVec F S256x128 .bf16) → sProp 𝕄} :
    iprop(records m K ∗ levAts L lv ∗ owed c 6 ∗ owns (c : Thread nD τ) (slot pM 1 0) fullShare (pn m 1 0 c) ∗ toSend 6 c ∗ free (pa c) (slot aM 1 0)
        ∗ toRecv 5 c ∗ owns (c : Thread nD τ) (slot sM 0 1) fullShare.right (sn m 0 1 c) ∗ stg c cc0_stg3_0 (w1 m c) ∗ stg c cc0_stg4_0 (v1 m c))
      ⊢ iprop(((owed c 7 ∗ sent 6 c ∗ rDone 5 c ∗ owns (c : Thread nD τ) (slot sM 0 1) fullShare.right (sn m 0 1 c) ∗ free c (slot bM 0 1)
            ∗ stg c cc0_stg3_0 (w1 m c) ∗ stg c cc0_stg4_0 (v1 m c)) -∗ Q ⟨pw m 1 1 c, pn m 1 1 c⟩)
        -∗ run c (onArgs (k0_part8 (F := F)) c v3) Q) := by
  rw [k0_part8_eq_skeleton]; unfold k0_part8_skel onArgs
  simp only [Prog.lift, Prog.bind_op, Prog.bind_ret, Prog.pure_eq_ret, Prog.bind_assoc]
  iintro ⟨#HR, #HL, HO, Hp, Hs, Hd, Ht, Ha, Hw, Hv⟩ Hk
  iapply (run_put c 4 (by decide) fullShare (pn m 1 0 c) (dev9_eq c) rfl rfl rfl rfl rfl rfl rfl) $$ [HO Hs Hp Hd]
  · iframe HR HO Hs Hp Hd
  iintro ⟨HO, Hs⟩
  iapply (run_take c 3 (by decide) 7 (by decide) (slot bM 0 1) rfl (pa c) rfl (sn m 0 1 (pa c)) rfl rfl) $$ [HO Ht]
  · iframe HR HL HO Ht
  iintro ⟨HO, Hr, Hb⟩
  iapply (run_load_slot c sM 0 1 rfl (sn m 0 1 c)) $$ Ha
  iintro %a %ha Ha
  iapply (run_load_slot c bM 0 1 rfl (sn m 0 1 (pa c))) $$ Hb
  iintro %b %hb Hb
  iapply (run_load_all c (Memref.whole cc0_stg3_0) (w1 m c) (Memref.readAt_unit_zero (Elt F) cc0_stg3_0 hz _ (w1 m c))) $$ Hw
  iintro Hw
  iapply (run_load_all c (Memref.whole cc0_stg4_0) (v1 m c) (Memref.readAt_unit_zero (Elt F) cc0_stg4_0 hz _ (v1 m c))) $$ Hv
  iintro Hv
  iapply (run_ret c (part8_eq c ha hb))
  iapply Hk
  iframe HO Hs Hr Ha Hw Hv
  iapply free_intro $$ Hb

set_option maxRecDepth 65536 in
/-- Part 9 sends the second half's partial product and adds the first half's that came. -/
theorem run_part9 (c : Dev nD) (v3 v4 : BitVec 32) {Q : FVec F S256x128 .f32 → sProp 𝕄} :
    iprop(records m K ∗ levAts L lv ∗ owed c 7 ∗ free c (slot pM 1 1) ∗ toSend 7 c ∗ free (pb c) (slot aM 1 1) ∗ toRecv 6 c)
      ⊢ iprop(((owed c 8 ∗ sent 7 c ∗ rDone 6 c ∗ free c (slot aM 1 0)) -∗ Q (addf (pw m 1 0 c) (up (pn m 1 0 (pa c)))))
        -∗ run c (onArgs (k0_part9 (F := F)) c v3 v4 (pw m 1 0 c) (pn m 1 1 c)) Q) := by
  rw [k0_part9_eq_skeleton]; unfold k0_part9_skel onArgs
  simp only [Prog.lift, Prog.bind_op, Prog.bind_ret, Prog.pure_eq_ret, Prog.bind_assoc]
  iintro ⟨#HR, #HL, HO, Hp, Hs, Hd, Ht⟩ Hk
  iapply (run_load_free c pM 1 1 rfl) $$ Hp
  iintro %_ Hp
  iapply (run_store_slot c pM 1 1 rfl (pn m 1 1 c) (pay14_reads (pn m 1 1 c))) $$ Hp
  iintro Hp
  iapply (run_put c 5 (by decide) fullShare (pn m 1 1 c) (dev10_eq c) rfl rfl rfl rfl rfl rfl rfl) $$ [HO Hs Hp Hd]
  · iframe HR HO Hs Hp Hd
  iintro ⟨HO, Hs⟩
  iapply (run_take c 4 (by decide) 8 (by decide) (slot aM 1 0) rfl (pa c) rfl (pn m 1 0 (pa c)) rfl rfl) $$ [HO Ht]
  · iframe HR HL HO Ht
  iintro ⟨HO, Hr, Ha⟩
  iapply (run_load_slot c aM 1 0 rfl (pn m 1 0 (pa c))) $$ Ha
  iintro %a %ha Ha
  iapply (run_ret c (pay15_eq (pw m 1 0 c) ha))
  iapply Hk
  iframe HO Hs Hr
  iapply free_intro $$ Ha

set_option maxRecDepth 65536 in
/-- Part 10 sends the first half's sum and takes the second half's partial product. -/
theorem run_part10 (c : Dev nD) (v4 : BitVec 32) {Q : FVec F S256x128 .f32 → sProp 𝕄} :
    iprop(records m K ∗ levAts L lv ∗ owed c 8 ∗ free c (slot sM 1 0) ∗ toSend 8 c ∗ free (pb c) (slot bM 1 0) ∗ toRecv 7 c)
      ⊢ iprop(((owed c 9 ∗ sent 8 c ∗ owns (c : Thread nD τ) (slot sM 1 0) fullShare.right (sn m 1 0 c) ∗ rDone 7 c ∗ free c (slot aM 1 1))
            -∗ Q (up (pn m 1 1 (pb c))))
        -∗ run c (onArgs (k0_part10 (F := F)) c v4 (addf (pw m 1 0 c) (up (pn m 1 0 (pa c))))) Q) := by
  rw [k0_part10_eq_skeleton]; unfold k0_part10_skel onArgs
  simp only [Prog.lift, Prog.bind_op, Prog.bind_ret, Prog.pure_eq_ret, Prog.bind_assoc]
  iintro ⟨#HR, #HL, HO, Hp, Hs, Hd, Ht⟩ Hk
  iapply (run_load_free c sM 1 0 rfl) $$ Hp
  iintro %_ Hp
  iapply (run_store_slot c sM 1 0 rfl (sn m 1 0 c) (pay16_reads (addf (pw m 1 0 c) (up (pn m 1 0 (pa c)))))) $$ Hp
  iintro Hp
  ihave Hp := (owns_halves c (slot sM 1 0) (sn m 1 0 c)) $$ Hp
  icases Hp with ⟨Hp, Hq⟩
  iapply (run_put c 6 (by decide) fullShare.left (sn m 1 0 c) (dev11_eq c) rfl rfl rfl rfl rfl rfl rfl) $$ [HO Hs Hp Hd]
  · iframe HR HO Hs Hp Hd
  iintro ⟨HO, Hs⟩
  iapply (run_take c 5 (by decide) 9 (by decide) (slot aM 1 1) rfl (pb c) rfl (pn m 1 1 (pb c)) rfl rfl) $$ [HO Ht]
  · iframe HR HL HO Ht
  iintro ⟨HO, Hr, Ha⟩
  iapply (run_load_slot c aM 1 1 rfl (pn m 1 1 (pb c))) $$ Ha
  iintro %a %ha Ha
  iapply (run_ret c (pay17_eq ha))
  iapply Hk
  iframe HO Hs Hq Hr
  iapply free_intro $$ Ha

set_option maxRecDepth 65536 in
/-- Part 11 sends the second half's sum and takes the first half's. -/
theorem run_part11 (c : Dev nD) (v3 v4 : BitVec 32) {Q : FVec F S256x128 .bf16 → sProp 𝕄} :
    iprop(records m K ∗ levAts L lv ∗ owed c 9 ∗ free c (slot sM 1 1) ∗ toSend 9 c ∗ free (pa c) (slot bM 1 1) ∗ toRecv 8 c
        ∗ owns (c : Thread nD τ) (slot sM 1 0) fullShare.right (sn m 1 0 c))
      ⊢ iprop(((owed c 10 ∗ sent 9 c ∗ owns (c : Thread nD τ) (slot sM 1 1) fullShare.right (sn m 1 1 c) ∗ rDone 8 c
            ∗ owns (c : Thread nD τ) (slot bM 1 0) fullShare (sn m 1 0 (pb c)) ∗ owns (c : Thread nD τ) (slot sM 1 0) fullShare.right (sn m 1 0 c))
            -∗ Q (sn m 1 0 c))
        -∗ run c (onArgs (k0_part11 (F := F)) c v3 v4 (pw m 1 1 c) (up (pn m 1 1 (pb c)))) Q) := by
  rw [k0_part11_eq_skeleton]; unfold k0_part11_skel onArgs
  simp only [Prog.lift, Prog.bind_op, Prog.bind_ret, Prog.pure_eq_ret, Prog.bind_assoc]
  iintro ⟨#HR, #HL, HO, Hp, Hs, Hd, Ht, Ha⟩ Hk
  iapply (run_load_free c sM 1 1 rfl) $$ Hp
  iintro %_ Hp
  iapply (run_store_slot c sM 1 1 rfl (sn m 1 1 c) (pay18_reads (pw m 1 1 c) (up (pn m 1 1 (pb c))))) $$ Hp
  iintro Hp
  ihave Hp := (owns_halves c (slot sM 1 1) (sn m 1 1 c)) $$ Hp
  icases Hp with ⟨Hp, Hq⟩
  iapply (run_put c 7 (by decide) fullShare.left (sn m 1 1 c) (dev12_eq c) rfl rfl rfl rfl rfl rfl rfl) $$ [HO Hs Hp Hd]
  · iframe HR HO Hs Hp Hd
  iintro ⟨HO, Hs⟩
  iapply (run_take c 6 (by decide) 10 (by decide) (slot bM 1 0) rfl (pb c) rfl (sn m 1 0 (pb c)) rfl rfl) $$ [HO Ht]
  · iframe HR HL HO Ht
  iintro ⟨HO, Hr, Hb⟩
  iapply (run_load_slot c sM 1 0 rfl (sn m 1 0 c)) $$ Ha
  iintro %a %ha Ha
  iapply (run_ret c (pay19_eq ha))
  iapply Hk
  iframe HO Hs Hq Hr Hb Ha

end Cert.KernelIdeal.Mlp

end
-- ==== Proof.Mlp.KernelIdeal.Layer2.lean ====
/-
Parts 12 to 16 of the body: the third layer.
-/
module

public import proofs.«01_k».proof.Proof.Mlp.KernelIdeal.Layer1

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

set_option maxRecDepth 65536 in
/-- Part 12 starts the third layer's first half and sends its partial product. -/
theorem run_part12 (c : Dev nD) (v3 : BitVec 32) {Q : FVec F S256x128 .f32 → sProp 𝕄} :
    iprop(records m K ∗ owed c 10 ∗ owns (c : Thread nD τ) (slot bM 1 0) fullShare (sn m 1 0 (pb c))
        ∗ stg c cc0_stg5_0 (w2 m c) ∗ stg c cc0_stg6_0 (v2 m c) ∗ free c (slot pM 2 0) ∗ toSend 10 c ∗ free (pa c) (slot aM 2 0))
      ⊢ iprop(((owed c 11 ∗ free c (slot bM 1 0) ∗ stg c cc0_stg5_0 (w2 m c) ∗ stg c cc0_stg6_0 (v2 m c) ∗ sent 10 c) -∗ Q (pw m 2 0 c))
        -∗ run c (onArgs (k0_part12 (F := F)) c v3 (sn m 1 0 c)) Q) := by
  rw [k0_part12_eq_skeleton]; unfold k0_part12_skel onArgs
  simp only [Prog.lift, Prog.bind_op, Prog.bind_ret, Prog.pure_eq_ret, Prog.bind_assoc]
  iintro ⟨#HR, HO, Hb, Hw, Hv, Hp, Hs, Hd⟩ Hk
  iapply (run_load_slot c bM 1 0 rfl (sn m 1 0 (pb c))) $$ Hb
  iintro %b %hb Hb
  iapply (run_load_all c (Memref.whole cc0_stg5_0) (w2 m c) (Memref.readAt_unit_zero (Elt F) cc0_stg5_0 hz _ (w2 m c))) $$ Hw
  iintro Hw
  iapply (run_load_all c (Memref.whole cc0_stg6_0) (v2 m c) (Memref.readAt_unit_zero (Elt F) cc0_stg6_0 hz _ (v2 m c))) $$ Hv
  iintro Hv
  iapply (run_load_free c pM 2 0 rfl) $$ Hp
  iintro %_ Hp
  iapply (run_store_slot c pM 2 0 rfl (pn m 2 0 c) (pay21_reads (X := sn m 1 0 c) (w2 m c) (v2 m c) hb)) $$ Hp
  iintro Hp
  iapply (run_put c 8 (by decide) fullShare (pn m 2 0 c) (dev13_eq c) rfl rfl rfl rfl rfl rfl rfl) $$ [HO Hs Hp Hd]
  · iframe HR HO Hs Hp Hd
  iintro ⟨HO, Hs⟩
  iapply (run_ret c ((pay20_eq (X := sn m 1 0 c) (w2 m c) (v2 m c) hb).trans (pw_third 0 c).symm))
  iapply Hk
  iframe HO Hw Hv Hs
  iapply free_intro $$ Hb

set_option maxRecDepth 65536 in
/-- Part 13 computes the third layer's second half. -/
theorem run_part13 (c : Dev nD) (v3 : BitVec 32) {Q : FVec F S256x128 .f32 → sProp 𝕄} :
    iprop(records m K ∗ levAts L lv ∗ owed c 11 ∗ toRecv 9 c ∗ owns (c : Thread nD τ) (slot sM 1 1) fullShare.right (sn m 1 1 c)
        ∗ stg c cc0_stg5_0 (w2 m c) ∗ stg c cc0_stg6_0 (v2 m c) ∗ free c (slot pM 2 1))
      ⊢ iprop(((owed c 11 ∗ rDone 9 c ∗ owns (c : Thread nD τ) (slot sM 1 1) fullShare.right (sn m 1 1 c) ∗ free c (slot bM 1 1)
            ∗ stg c cc0_stg5_0 (w2 m c) ∗ stg c cc0_stg6_0 (v2 m c) ∗ owns (c : Thread nD τ) (slot pM 2 1) fullShare (pn m 2 1 c)) -∗ Q (pw m 2 1 c))
        -∗ run c (onArgs (k0_part13 (F := F)) v3) Q) := by
  rw [k0_part13_eq_skeleton]; unfold k0_part13_skel onArgs
  simp only [Prog.lift, Prog.bind_op, Prog.bind_ret, Prog.pure_eq_ret, Prog.bind_assoc]
  iintro ⟨#HR, #HL, HO, Ht, Ha, Hw, Hv, Hp⟩ Hk
  iapply (run_take c 7 (by decide) 11 (by decide) (slot bM 1 1) rfl (pa c) rfl (sn m 1 1 (pa c)) rfl rfl) $$ [HO Ht]
  · iframe HR HL HO Ht
  iintro ⟨HO, Hr, Hb⟩
  iapply (run_load_slot c sM 1 1 rfl (sn m 1 1 c)) $$ Ha
  iintro %a %ha Ha
  iapply (run_load_slot c bM 1 1 rfl (sn m 1 1 (pa c))) $$ Hb
  iintro %b %hb Hb
  iapply (run_load_all c (Memref.whole cc0_stg5_0) (w2 m c) (Memref.readAt_unit_zero (Elt F) cc0_stg5_0 hz _ (w2 m c))) $$ Hw
  iintro Hw
  iapply (run_load_all c (Memref.whole cc0_stg6_0) (v2 m c) (Memref.readAt_unit_zero (Elt F) cc0_stg6_0 hz _ (v2 m c))) $$ Hv
  iintro Hv
  iapply (run_load_free c pM 2 1 rfl) $$ Hp
  iintro %_ Hp
  iapply (run_store_slot c pM 2 1 rfl (pn m 2 1 c) (pay23_reads (w2 m c) (v2 m c) ha hb)) $$ Hp
  iintro Hp
  iapply (run_ret c ((pay22_eq (w2 m c) (v2 m c) ha hb).trans (pw_third 1 c).symm))
  iapply Hk
  iframe HO Hr Ha Hw Hv Hp
  iapply free_intro $$ Hb

set_option maxRecDepth 65536 in
/-- Part 14 sends the second half's partial product and adds the first half's. -/
theorem run_part14 (c : Dev nD) (v3 v4 : BitVec 32) {Q : PUnit → sProp 𝕄} :
    iprop(records m K ∗ levAts L lv ∗ owed c 11 ∗ owns (c : Thread nD τ) (slot pM 2 1) fullShare (pn m 2 1 c) ∗ toSend 11 c ∗ free (pb c) (slot aM 2 1)
        ∗ toRecv 10 c ∗ free c (slot sM 2 0))
      ⊢ iprop(((owed c 12 ∗ sent 11 c ∗ rDone 10 c ∗ free c (slot aM 2 0) ∗ owns (c : Thread nD τ) (slot sM 2 0) fullShare (sn m 2 0 c)) -∗ Q ⟨⟩)
        -∗ run c (onArgs (k0_part14 (F := F)) c v3 v4 (pw m 2 0 c)) Q) := by
  rw [k0_part14_eq_skeleton]; unfold k0_part14_skel onArgs
  simp only [Prog.lift, Prog.bind_op, Prog.bind_ret, Prog.pure_eq_ret, Prog.bind_assoc]
  iintro ⟨#HR, #HL, HO, Hp, Hs, Hd, Ht, Hq⟩ Hk
  iapply (run_put c 9 (by decide) fullShare (pn m 2 1 c) (dev14_eq c) rfl rfl rfl rfl rfl rfl rfl) $$ [HO Hs Hp Hd]
  · iframe HR HO Hs Hp Hd
  iintro ⟨HO, Hs⟩
  iapply (run_take c 8 (by decide) 12 (by decide) (slot aM 2 0) rfl (pa c) rfl (pn m 2 0 (pa c)) rfl rfl) $$ [HO Ht]
  · iframe HR HL HO Ht
  iintro ⟨HO, Hr, Ha⟩
  iapply (run_load_slot c aM 2 0 rfl (pn m 2 0 (pa c))) $$ Ha
  iintro %a %ha Ha
  iapply (run_load_free c sM 2 0 rfl) $$ Hq
  iintro %_ Hq
  iapply (run_store_slot c sM 2 0 rfl (sn m 2 0 c) (pay24_reads (pw m 2 0 c) ha)) $$ Hq
  iintro Hq
  iapply (run_ret c rfl)
  iapply Hk
  iframe HO Hs Hr Hq
  iapply free_intro $$ Ha

set_option maxRecDepth 65536 in
/-- Part 15 sends the first half's sum and adds the second half's partial product. -/
theorem run_part15 (c : Dev nD) (v4 : BitVec 32) {Q : PUnit → sProp 𝕄} :
    iprop(records m K ∗ levAts L lv ∗ owed c 12 ∗ owns (c : Thread nD τ) (slot sM 2 0) fullShare (sn m 2 0 c) ∗ toSend 12 c ∗ free (pb c) (slot bM 2 0)
        ∗ toRecv 11 c ∗ free c (slot sM 2 1))
      ⊢ iprop(((owed c 13 ∗ sent 12 c ∗ owns (c : Thread nD τ) (slot sM 2 0) fullShare.right (sn m 2 0 c) ∗ rDone 11 c ∗ free c (slot aM 2 1)
            ∗ owns (c : Thread nD τ) (slot sM 2 1) fullShare (sn m 2 1 c)) -∗ Q ⟨⟩)
        -∗ run c (onArgs (k0_part15 (F := F)) c v4 (pw m 2 1 c)) Q) := by
  rw [k0_part15_eq_skeleton]; unfold k0_part15_skel onArgs
  simp only [Prog.lift, Prog.bind_op, Prog.bind_ret, Prog.pure_eq_ret, Prog.bind_assoc]
  iintro ⟨#HR, #HL, HO, Hp, Hs, Hd, Ht, Hq⟩ Hk
  ihave Hp := (owns_halves c (slot sM 2 0) (sn m 2 0 c)) $$ Hp
  icases Hp with ⟨Hp, Hp'⟩
  iapply (run_put c 10 (by decide) fullShare.left (sn m 2 0 c) (dev15_eq c) rfl rfl rfl rfl rfl rfl rfl) $$ [HO Hs Hp Hd]
  · iframe HR HO Hs Hp Hd
  iintro ⟨HO, Hs⟩
  iapply (run_take c 9 (by decide) 13 (by decide) (slot aM 2 1) rfl (pb c) rfl (pn m 2 1 (pb c)) rfl rfl) $$ [HO Ht]
  · iframe HR HL HO Ht
  iintro ⟨HO, Hr, Ha⟩
  iapply (run_load_slot c aM 2 1 rfl (pn m 2 1 (pb c))) $$ Ha
  iintro %a %ha Ha
  iapply (run_load_free c sM 2 1 rfl) $$ Hq
  iintro %_ Hq
  iapply (run_store_slot c sM 2 1 rfl (sn m 2 1 c) (pay25_reads (pw m 2 1 c) ha)) $$ Hq
  iintro Hq
  iapply (run_ret c rfl)
  iapply Hk
  iframe HO Hs Hp' Hr Hq
  iapply free_intro $$ Ha

set_option maxRecDepth 65536 in
/-- Part 16 sends the second half's sum and adds the first half's. -/
theorem run_part16 (c : Dev nD) (v3 v4 : BitVec 32) {Q : FVec F S256x128 .f32 → sProp 𝕄} :
    iprop(records m K ∗ levAts L lv ∗ owed c 13 ∗ owns (c : Thread nD τ) (slot sM 2 1) fullShare (sn m 2 1 c) ∗ toSend 13 c ∗ free (pa c) (slot bM 2 1)
        ∗ toRecv 12 c ∗ owns (c : Thread nD τ) (slot sM 2 0) fullShare.right (sn m 2 0 c))
      ⊢ iprop(((owed c 14 ∗ sent 13 c ∗ owns (c : Thread nD τ) (slot sM 2 1) fullShare.right (sn m 2 1 c) ∗ rDone 12 c
            ∗ owns (c : Thread nD τ) (slot sM 2 0) fullShare.right (sn m 2 0 c) ∗ free c (slot bM 2 0)) -∗ Q (act m 3 0 c))
        -∗ run c (onArgs (k0_part16 (F := F)) c v3 v4) Q) := by
  rw [k0_part16_eq_skeleton]; unfold k0_part16_skel onArgs
  simp only [Prog.lift, Prog.bind_op, Prog.bind_ret, Prog.pure_eq_ret, Prog.bind_assoc]
  iintro ⟨#HR, #HL, HO, Hp, Hs, Hd, Ht, Ha⟩ Hk
  ihave Hp := (owns_halves c (slot sM 2 1) (sn m 2 1 c)) $$ Hp
  icases Hp with ⟨Hp, Hp'⟩
  iapply (run_put c 11 (by decide) fullShare.left (sn m 2 1 c) (dev16_eq c) rfl rfl rfl rfl rfl rfl rfl) $$ [HO Hs Hp Hd]
  · iframe HR HO Hs Hp Hd
  iintro ⟨HO, Hs⟩
  iapply (run_take c 10 (by decide) 14 (by decide) (slot bM 2 0) rfl (pb c) rfl (sn m 2 0 (pb c)) rfl rfl) $$ [HO Ht]
  · iframe HR HL HO Ht
  iintro ⟨HO, Hr, Hb⟩
  iapply (run_load_slot c sM 2 0 rfl (sn m 2 0 c)) $$ Ha
  iintro %a %ha Ha
  iapply (run_load_slot c bM 2 0 rfl (sn m 2 0 (pb c))) $$ Hb
  iintro %b %hb Hb
  iapply (run_ret c ((pay26_eq ha hb).trans (act_last 0 c).symm))
  iapply Hk
  iframe HO Hs Hp' Hr Ha
  iapply free_intro $$ Hb

end Cert.KernelIdeal.Mlp

end
-- ==== Proof.Mlp.KernelIdeal.Finish.lean ====
/-
The last parts of the body: the result is written and the transfers' sources come back.
-/
module

public import proofs.«01_k».proof.Proof.Mlp.KernelIdeal.Layer2

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-! ## The result -/

variable (m) in
set_option backward.proofsInPublic true in
/-- What device `c` writes: the two halves of the last activations, one above the other. -/
def outAt (c : Dev nD) : S512x128.Idx → Elt F .f32 := fun i =>
  act m 3 ⟨(i 0).val / 256, Nat.div_lt_of_lt_mul (i 0).isLt⟩ c (ix (p := 256) (q := 128) ⟨(i 0).val % 256, Nat.mod_lt _ (by decide)⟩ (i 1))

abbrev yM : Memref sig .tc .vmem S512x128 .f32 := Memref.whole cc0_stg7_0

/-- A store into the output. -/
theorem run_store_out {α : Type} {Q : α → sProp 𝕄} {k : PUnit → Prog (TpuEff nD τ sig (Elt F) Λ₀ .tc) α} (c : Dev nD) (r : Rect S512x128)
    {w : r.shape.Idx → Elt F .f32} (f : S512x128.Idx → Elt F .f32) {hx : (yM.access r).Stores Finset.univ} {hm} :
    (stg c cc0_stg7_0 f : sProp 𝕄)
      ⊢ iprop((stg c cc0_stg7_0 ((yM.access r).write (Elt F) f w Finset.univ) -∗ run c (k ⟨⟩) Q)
          -∗ run c (.op (.store yM r w Finset.univ hx hm) k) Q) :=
  wp_store 𝒱₀ (c : Thread nD τ) none Set.univ (m := yM) (r := r) (Mk := Finset.univ) (Finset.subset_univ _)

/-- The upper half lies in the output; -/
theorem inbLo : ∀ a : Fin 2, (![0, 0] : Fin 2 → ℕ) a + S256x128.size a ≤ S512x128.size a := by decide
/-- and so does the lower half. -/
theorem inbHi : ∀ a : Fin 2, (![256, 0] : Fin 2 → ℕ) a + S256x128.size a ≤ S512x128.size a := by decide
/-- The upper and the lower half of the output. -/
abbrev rLo : Rect S512x128 := Rect.unit (s := S512x128) ![0, 0] S256x128.size inbLo
abbrev rHi : Rect S512x128 := Rect.unit (s := S512x128) ![256, 0] S256x128.size inbHi

/-- After the two stores the output is `outAt`. -/
theorem out_eq (c : Dev nD) (f : S512x128.Idx → Elt F .f32) :
    (yM.access rHi).write (Elt F) ((yM.access rLo).write (Elt F) f (act m 3 0 c) Finset.univ) (act m 3 1 c) Finset.univ = outAt m c := by
  have out_at : ∀ (h : Fin 2) (j : S256x128.Idx) (i : S512x128.Idx), (i 0).val = 256 * h.val + (j 0).val → (i 1).val = (j 1).val →
      outAt m c i = act m 3 h c j := fun h j i h0 h1 => by
    have hj : (j 0).val < 256 := (j 0).isLt
    unfold outAt
    have e : (⟨(i 0).val / 256, Nat.div_lt_of_lt_mul (i 0).isLt⟩ : Fin 2) = h := Fin.ext (by show _ / 256 = h.val; rw [h0]; omega)
    rw [e]
    refine congrArg (act m 3 h c) (funext fun a => ?_)
    fin_cases a
    · exact Fin.ext (by show _ % 256 = (j 0).val; rw [h0]; omega)
    · exact Fin.ext h1
  funext i
  by_cases hi : (i 0).val < 256
  · have hn : i ∉ (yM.access rHi).setOn Finset.univ := fun hm => by
      have h := (View.set_slice_whole cc0_stg7_0 rHi).le hm
      have := (Rect.mem_set_unit.mp h 0).1
      have : 256 ≤ (i 0).val := this
      omega
    refine (View.write_of_not_mem _ _ _ hn).trans ?_
    have hm : i ∈ (yM.access rLo).set := (View.set_slice_whole cc0_stg7_0 rLo).ge (Rect.mem_set_unit.mpr fun a => by
      fin_cases a
      · exact ⟨Nat.zero_le _, by show (i 0).val < 0 + 256; omega⟩
      · exact ⟨Nat.zero_le _, by show (i 1).val < 0 + 128; have : (i 1).val < 128 := (i 1).isLt; omega⟩)
    obtain ⟨j, -, rfl⟩ := Finset.mem_map.mp hm
    refine (View.write_emb_of_mem _ _ (Finset.mem_univ j)).trans (out_at 0 j _ ?_ ?_).symm
    · show 0 + 1 * (j 0).val = 256 * 0 + (j 0).val; omega
    · show 0 + 1 * (j 1).val = (j 1).val; omega
  · have hm : i ∈ (yM.access rHi).set := (View.set_slice_whole cc0_stg7_0 rHi).ge (Rect.mem_set_unit.mpr fun a => by
      fin_cases a
      · exact ⟨by show 256 ≤ (i 0).val; omega, by show (i 0).val < 256 + 256; have : (i 0).val < 512 := (i 0).isLt; omega⟩
      · exact ⟨Nat.zero_le _, by show (i 1).val < 0 + 128; have : (i 1).val < 128 := (i 1).isLt; omega⟩)
    obtain ⟨j, -, rfl⟩ := Finset.mem_map.mp hm
    refine (View.write_emb_of_mem _ _ (Finset.mem_univ j)).trans (out_at 1 j _ ?_ ?_).symm
    · show 256 + 1 * (j 0).val = 256 * 1 + (j 0).val; omega
    · show 0 + 1 * (j 1).val = (j 1).val; omega

/-! ## The last parts -/

variable (m) in
/-- The source of transfer `n + 2`, back from it. -/
abbrev back (n : ℕ) (c : Dev nD) : sProp 𝕄 := owns (c : Thread nD τ) (srcM n) (shr n) (val m n c)

set_option maxRecDepth 65536 in
/-- Part 17 adds the second half's last sums and writes the result. -/
theorem run_part17 (c : Dev nD) (v3 : BitVec 32) {Q : PUnit → sProp 𝕄} :
    iprop(records m K ∗ levAts L lv ∗ owed c 14 ∗ toRecv 13 c ∗ owns (c : Thread nD τ) (slot sM 2 1) fullShare.right (sn m 2 1 c)
        ∗ (∃ f, stg c cc0_stg7_0 f) ∗ sent 0 c)
      ⊢ iprop(((owed c 14 ∗ rDone 13 c ∗ owns (c : Thread nD τ) (slot sM 2 1) fullShare.right (sn m 2 1 c) ∗ free c (slot bM 2 1)
            ∗ stg c cc0_stg7_0 (outAt m c) ∗ sDone 0 c ∗ xPts c (Row c) fullShare.left.left (G m)) -∗ Q ⟨⟩)
        -∗ run c (onArgs (k0_part17 (F := F)) c v3 (act m 3 0 c)) Q) := by
  rw [k0_part17_eq_skeleton]; unfold k0_part17_skel onArgs
  simp only [Prog.lift, Prog.bind_op, Prog.bind_ret, Prog.pure_eq_ret, Prog.bind_assoc]
  iintro ⟨#HR, #HL, HO, Ht, Ha, ⟨%f, Hy⟩, Hs⟩ Hk
  iapply (run_take c 11 (by decide) 14 (by decide) (slot bM 2 1) rfl (pa c) rfl (sn m 2 1 (pa c)) rfl rfl) $$ [HO Ht]
  · iframe HR HL HO Ht
  iintro ⟨HO, Hr, Hb⟩
  iapply (run_load_slot c sM 2 1 rfl (sn m 2 1 c)) $$ Ha
  iintro %a %ha Ha
  iapply (run_load_slot c bM 2 1 rfl (sn m 2 1 (pa c))) $$ Hb
  iintro %b %hb Hb
  rw [(pay27_eq ha hb).trans (act_last 1 c).symm]
  iapply (run_load_all c yM f rfl) $$ Hy
  iintro Hy
  iapply (run_store_out c rLo f) $$ Hy
  iintro Hy
  iapply (run_load_all c yM _ rfl) $$ Hy
  iintro Hy
  iapply (run_store_out c rHi _) $$ Hy
  iintro Hy
  rw [out_eq]
  iapply (run_wait_send c 0 (dst := rowM c) rfl (amt_row c) (xPts c (Row c) fullShare.left.left (G m)) rfl) $$ [HO Hs]
  · iframe HR HO Hs
  iintro ⟨HO, Hs, Hx⟩
  iapply (run_ret c rfl)
  iapply Hk
  iframe HO Hr Ha Hy Hs Hx
  iapply free_intro $$ Hb

set_option maxRecDepth 65536 in
/-- Part 18 waits for the sources of transfers 1 to 4. -/
theorem run_part18 (c : Dev nD) {Q : PUnit → sProp 𝕄} :
    iprop(records m K ∗ owed c 14 ∗ sent 1 c ∗ sent 2 c ∗ sent 3 c ∗ sent 4 c)
      ⊢ iprop(((owed c 14 ∗ (sDone 1 c ∗ sDone 2 c ∗ sDone 3 c ∗ sDone 4 c)
            ∗ xPts c (Pair c) fullShare.right (G m) ∗ back m 0 c ∗ back m 1 c ∗ back m 2 c) -∗ Q ⟨⟩)
        -∗ run c (onArgs (k0_part18 (F := F)) c) Q) := by
  rw [k0_part18_eq_skeleton]; unfold k0_part18_skel onArgs
  simp only [Prog.lift, Prog.bind_op, Prog.bind_ret, Prog.pure_eq_ret, Prog.bind_assoc]
  iintro ⟨#HR, HO, H1, H2, H3, H4⟩ Hk
  iapply (run_wait_send c 1 (dst := pairM c) rfl (amt_pair c) (xPts c (Pair c) fullShare.right (G m)) rfl) $$ [HO H1]
  · iframe HR HO H1
  iintro ⟨HO, H1, Hx⟩
  iapply (run_back c 0 (by decide) (slot pM 0 0) rfl) $$ [HO H2]
  · iframe HR HO H2
  iintro ⟨HO, H2, B0⟩
  iapply (run_back c 1 (by decide) (slot pM 0 1) rfl) $$ [HO H3]
  · iframe HR HO H3
  iintro ⟨HO, H3, B1⟩
  iapply (run_back c 2 (by decide) (slot sM 0 0) rfl) $$ [HO H4]
  · iframe HR HO H4
  iintro ⟨HO, H4, B2⟩
  iapply (run_ret c rfl)
  iapply Hk
  iframe HO H1 H2 H3 H4 Hx B0 B1 B2

set_option maxRecDepth 65536 in
/-- Part 19 waits for the sources of transfers 5 to 7. -/
theorem run_part19 (c : Dev nD) {Q : PUnit → sProp 𝕄} :
    iprop(records m K ∗ owed c 14 ∗ sent 5 c ∗ sent 6 c ∗ sent 7 c)
      ⊢ iprop(((owed c 14 ∗ (sDone 5 c ∗ sDone 6 c ∗ sDone 7 c) ∗ back m 3 c ∗ back m 4 c ∗ back m 5 c) -∗ Q ⟨⟩)
        -∗ run c (onArgs (k0_part19 (F := F))) Q) := by
  rw [k0_part19_eq_skeleton]; unfold k0_part19_skel onArgs
  simp only [Prog.lift, Prog.bind_op, Prog.bind_ret, Prog.pure_eq_ret, Prog.bind_assoc]
  iintro ⟨#HR, HO, H1, H2, H3⟩ Hk
  iapply (run_back c 3 (by decide) (slot sM 0 1) rfl) $$ [HO H1]
  · iframe HR HO H1
  iintro ⟨HO, H1, B0⟩
  iapply (run_back c 4 (by decide) (slot pM 1 0) rfl) $$ [HO H2]
  · iframe HR HO H2
  iintro ⟨HO, H2, B1⟩
  iapply (run_back c 5 (by decide) (slot pM 1 1) rfl) $$ [HO H3]
  · iframe HR HO H3
  iintro ⟨HO, H3, B2⟩
  iapply (run_ret c rfl)
  iapply Hk
  iframe HO H1 H2 H3 B0 B1 B2

set_option maxRecDepth 65536 in
/-- Part 20 waits for the sources of transfers 8 to 10. -/
theorem run_part20 (c : Dev nD) {Q : PUnit → sProp 𝕄} :
    iprop(records m K ∗ owed c 14 ∗ sent 8 c ∗ sent 9 c ∗ sent 10 c)
      ⊢ iprop(((owed c 14 ∗ (sDone 8 c ∗ sDone 9 c ∗ sDone 10 c) ∗ back m 6 c ∗ back m 7 c ∗ back m 8 c) -∗ Q ⟨⟩)
        -∗ run c (onArgs (k0_part20 (F := F))) Q) := by
  rw [k0_part20_eq_skeleton]; unfold k0_part20_skel onArgs
  simp only [Prog.lift, Prog.bind_op, Prog.bind_ret, Prog.pure_eq_ret, Prog.bind_assoc]
  iintro ⟨#HR, HO, H1, H2, H3⟩ Hk
  iapply (run_back c 6 (by decide) (slot sM 1 0) rfl) $$ [HO H1]
  · iframe HR HO H1
  iintro ⟨HO, H1, B0⟩
  iapply (run_back c 7 (by decide) (slot sM 1 1) rfl) $$ [HO H2]
  · iframe HR HO H2
  iintro ⟨HO, H2, B1⟩
  iapply (run_back c 8 (by decide) (slot pM 2 0) rfl) $$ [HO H3]
  · iframe HR HO H3
  iintro ⟨HO, H3, B2⟩
  iapply (run_ret c rfl)
  iapply Hk
  iframe HO H1 H2 H3 B0 B1 B2

end Cert.KernelIdeal.Mlp

end
-- ==== Proof.Mlp.KernelIdeal.Body.lean ====
/-
The body as a whole: its parts, one after the other.
-/
module

public import proofs.«01_k».proof.Proof.Mlp.KernelIdeal.Finish

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable {m}
variable {K : Dev nD × (Unit ⊕ (Fin 14 ⊕ Fin 14)) → ℕ}

/-- One for each transfer. -/
abbrev fourteen (P : Fin 14 → sProp 𝕄) : sProp 𝕄 :=
  iprop(P 0 ∗ P 1 ∗ P 2 ∗ P 3 ∗ P 4 ∗ P 5 ∗ P 6 ∗ P 7 ∗ P 8 ∗ P 9 ∗ P 10 ∗ P 11 ∗ P 12 ∗ P 13)

/-- The six places of a scratch array. -/
abbrev six (c : Dev nD) (M : Memref sig .tc .vmem S3x2x256x128 .bf16) : sProp 𝕄 :=
  iprop(free c (slot M 0 0) ∗ free c (slot M 0 1) ∗ free c (slot M 1 0) ∗ free c (slot M 1 1) ∗ free c (slot M 2 0) ∗ free c (slot M 2 1))

variable (m) in
/-- The staged arguments. -/
abbrev staged (c : Dev nD) : sProp 𝕄 :=
  iprop(stg c cc0_stg0_0 (xs m c) ∗ stg c cc0_stg1_0 (w0 m c) ∗ stg c cc0_stg2_0 (v0 m c) ∗ stg c cc0_stg3_0 (w1 m c)
    ∗ stg c cc0_stg4_0 (v1 m c) ∗ stg c cc0_stg5_0 (w2 m c) ∗ stg c cc0_stg6_0 (v2 m c))

/-- A program run part by part. -/
theorem run_bind {α β : Type} {Q : β → sProp 𝕄} (c : Dev nD) {p : Prog (TpuEff nD τ sig (Elt F) Λ₀ .tc) α}
    {k : α → Prog (TpuEff nD τ sig (Elt F) Λ₀ .tc) β} :
    (run c p fun x => run c (k x) Q) ⊢ run c (p >>= k) Q := by
  unfold run; rw [wp_bind]

/-- A source that is back, when it was lent whole -/
theorem back_free (c : Dev nD) (n : ℕ) {M : Memref sig .tc .vmem S256x128 .bf16} (hM : srcM n = M) (hq : shr n = fullShare) : back m n c ⊢ free c M := by
  subst hM; unfold back; rw [hq]; exact free_intro c _ _

/-- and when a half was lent. -/
theorem back_half (c : Dev nD) (n : ℕ) {M : Memref sig .tc .vmem S256x128 .bf16} (X : Vec F S256x128 .bf16) (hM : srcM n = M) (hq : shr n = fullShare.left) :
    iprop(back m n c ∗ owns (c : Thread nD τ) M fullShare.right X) ⊢ free c M := by
  subst hM; unfold back; rw [hq]; exact free_of_halves c _ _ _

set_option maxRecDepth 65536 in
set_option maxHeartbeats 4000000 in
/-- The whole body. -/
theorem run_body (c : Dev nD) {Q : PUnit → sProp 𝕄} :
    iprop(records m K ∗ levAts L lv ∗ (∃ W, owes (c : Thread nD τ) (O₀ c) W)
        ∗ (dutyTok ER (barCell (pa c)) 0 true ∗ dutyTok ER (barCell (pb c)) 0 false ∗ cred (tallyAt (barCell c) () 2) ∗ atPos ER (barCell c) 0 ∅ 0)
        ∗ fourteen (fun j => toSend j c) ∗ fourteen (fun j => toRecv j c) ∗ (∃ f, xPts c Finset.univ fullShare f)
        ∗ (six c pM ∗ six c aM ∗ six c sM ∗ six c bM) ∗ staged m c ∗ ∃ f, stg c cc0_stg7_0 f)
      ⊢ iprop(((owed c 14 ∗ semVal (barCell c) 0 ∗ fourteen (fun j => sDone j c) ∗ fourteen (fun j => rDone j c) ∗ xPts c Finset.univ fullShare (G m)
            ∗ (six c pM ∗ six c aM ∗ six c sM ∗ six c bM) ∗ staged m c ∗ stg c cc0_stg7_0 (outAt m c)) -∗ Q ⟨⟩)
        -∗ run c (onArgs (cc0_body (F := F))) Q) := by
  rw [cc0_body_eq_skeleton]; unfold cc0_body_skel
  iintro ⟨#HR, #HL, HO, Hbar, ⟨s0, s1, s2, s3, s4, s5, s6, s7, s8, s9, s10, s11, s12, s13⟩, ⟨t0, t1, t2, t3, t4, t5, t6, t7, t8, t9, t10, t11, t12, t13⟩,
    ⟨%fx, Hx⟩, ⟨⟨p00, p01, p10, p11, p20, p21⟩, ⟨a00, a01, a10, a11, a20, a21⟩, ⟨q00, q01, q10, q11, q20, q21⟩, ⟨b00, b01, b10, b11, b20, b21⟩⟩,
    ⟨g0, g1, g2, g3, g4, g5, g6⟩, g7⟩ Hk
  ihave Hx := (x_open c fx) $$ Hx
  icases Hx with ⟨Hx, Hxa, Hxb⟩
  iapply run_bind
  iapply (run_part1 c) $$ [HO Hbar Hx Hxa Hxb a00 b01 a10 b11 a20 b21 a01 b00 a11 b10 a21 b20 g0 s0]
  · iframe HR HL HO Hbar g0 s0
    unfold barPay
    rw [pa_pa, pb_pb]
    iframe a00 b01 a10 b11 a20 b21 a01 b00 a11 b10 a21 b20
    isplitl [Hxa]; · iexists fx; iexact Hxa
    isplitl [Hxb]; · iexists fx; iexact Hxb
    iexists fx; iexact Hx
  unfold places
  iintro %v2 %v3 %v4 ⟨HO, s0, Hz, ⟨⟨a00, b01, a10, b11, a20, b21⟩, ⟨a01, b00, a11, b10, a21, b20⟩⟩, Hd, ⟨Hx, Hxr⟩, g0⟩
  iapply run_bind
  iapply (run_part2 c v2 v4) $$ [HO t0 s1 Hxr Hd]
  · iframe HR HL HO t0 s1 Hxr Hd
  iintro ⟨HO, t0, s1, Hxa⟩
  iapply run_bind
  iapply (run_part3 c v3) $$ [HO t1 Hx Hxa g1 g2 p00 s2 a00]
  · iframe HR HL HO t1 Hx Hxa g1 g2 p00 s2 a00
  iintro ⟨HO, t1, Hx, g1, g2, s2⟩
  iapply run_bind
  iapply (run_part4 c v3 v4) $$ [HO g2 p01 s3 a01]
  · iframe HR HO g2 p01 s3 a01
  iintro ⟨HO, g2, s3⟩
  iapply run_bind
  iapply (run_part5 c v4) $$ [HO t2 q00 s4 b00]
  · iframe HR HL HO t2 q00 s4 b00
  iintro ⟨HO, t2, a00, q00, s4⟩
  iapply run_bind
  iapply (run_part6 c v3 v4) $$ [HO t3 q01 s5 b01]
  · iframe HR HL HO t3 q01 s5 b01
  iintro ⟨HO, t3, a01, q01, s5⟩
  iapply run_bind
  iapply (run_part7 c v3) $$ [HO t4 q00 g3 g4 p10]
  · iframe HR HL HO t4 q00 g3 g4 p10
  iintro ⟨HO, t4, q00, b00, g3, g4, p10⟩
  iapply run_bind
  iapply (run_part8 c v3) $$ [HO p10 s6 a10 t5 q01 g3 g4]
  · iframe HR HL HO p10 s6 a10 t5 q01 g3 g4
  iintro ⟨HO, s6, t5, q01, b01, g3, g4⟩
  iapply run_bind
  iapply (run_part9 c v3 v4) $$ [HO p11 s7 a11 t6]
  · iframe HR HL HO p11 s7 a11 t6
  iintro ⟨HO, s7, t6, a10⟩
  iapply run_bind
  iapply (run_part10 c v4) $$ [HO q10 s8 b10 t7]
  · iframe HR HL HO q10 s8 b10 t7
  iintro ⟨HO, s8, q10, t7, a11⟩
  iapply run_bind
  iapply (run_part11 c v3 v4) $$ [HO q11 s9 b11 t8 q10]
  · iframe HR HL HO q11 s9 b11 t8 q10
  iintro ⟨HO, s9, q11, t8, b10, q10⟩
  iapply run_bind
  iapply (run_part12 c v3) $$ [HO b10 g5 g6 p20 s10 a20]
  · iframe HR HO b10 g5 g6 p20 s10 a20
  iintro ⟨HO, b10, g5, g6, s10⟩
  iapply run_bind
  iapply (run_part13 c v3) $$ [HO t9 q11 g5 g6 p21]
  · iframe HR HL HO t9 q11 g5 g6 p21
  iintro ⟨HO, t9, q11, b11, g5, g6, p21⟩
  iapply run_bind
  iapply (run_part14 c v3 v4) $$ [HO p21 s11 a21 t10 q20]
  · iframe HR HL HO p21 s11 a21 t10 q20
  iintro ⟨HO, s11, t10, a20, q20⟩
  iapply run_bind
  iapply (run_part15 c v4) $$ [HO q20 s12 b20 t11 q21]
  · iframe HR HL HO q20 s12 b20 t11 q21
  iintro ⟨HO, s12, q20, t11, a21, q21⟩
  iapply run_bind
  iapply (run_part16 c v3 v4) $$ [HO q21 s13 b21 t12 q20]
  · iframe HR HL HO q21 s13 b21 t12 q20
  iintro ⟨HO, s13, q21, t12, q20, b20⟩
  iapply run_bind
  iapply (run_part17 c v3) $$ [HO t13 q21 g7 s0]
  · iframe HR HL HO t13 q21 g7 s0
  iintro ⟨HO, t13, q21, b21, g7, s0, Hx0⟩
  iapply run_bind
  iapply (run_part18 c) $$ [HO s1 s2 s3 s4]
  · iframe HR HO s1 s2 s3 s4
  iintro ⟨HO, ⟨s1, s2, s3, s4⟩, Hx1, p00, p01, r00⟩
  iapply run_bind
  iapply (run_part19 c) $$ [HO s5 s6 s7]
  · iframe HR HO s5 s6 s7
  iintro ⟨HO, ⟨s5, s6, s7⟩, r01, p10, p11⟩
  iapply run_bind
  iapply (run_part20 c) $$ [HO s8 s9 s10]
  · iframe HR HO s8 s9 s10
  iintro ⟨HO, ⟨s8, s9, s10⟩, r10, r11, p20⟩
  simp only [Prog.lift, Prog.bind_op, Prog.bind_ret, Prog.pure_eq_ret, Prog.bind_assoc]
  iapply (run_back c 9 (by decide) (slot pM 2 1) rfl) $$ [HO s11]
  · iframe HR HO s11
  iintro ⟨HO, s11, p21⟩
  iapply (run_back c 10 (by decide) (slot sM 2 0) rfl) $$ [HO s12]
  · iframe HR HO s12
  iintro ⟨HO, s12, r20⟩
  iapply (run_back c 11 (by decide) (slot sM 2 1) rfl) $$ [HO s13]
  · iframe HR HO s13
  iintro ⟨HO, s13, r21⟩
  iapply (run_ret c rfl)
  ihave p00 := (back_free c 0 (M := slot pM 0 0) rfl rfl) $$ p00
  ihave p01 := (back_free c 1 (M := slot pM 0 1) rfl rfl) $$ p01
  ihave p10 := (back_free c 4 (M := slot pM 1 0) rfl rfl) $$ p10
  ihave p11 := (back_free c 5 (M := slot pM 1 1) rfl rfl) $$ p11
  ihave p20 := (back_free c 8 (M := slot pM 2 0) rfl rfl) $$ p20
  ihave p21 := (back_free c 9 (M := slot pM 2 1) rfl rfl) $$ p21
  ihave q00 := (back_half c 2 (M := slot sM 0 0) (sn m 0 0 c) rfl rfl) $$ [r00 q00]
  · iframe r00 q00
  ihave q01 := (back_half c 3 (M := slot sM 0 1) (sn m 0 1 c) rfl rfl) $$ [r01 q01]
  · iframe r01 q01
  ihave q10 := (back_half c 6 (M := slot sM 1 0) (sn m 1 0 c) rfl rfl) $$ [r10 q10]
  · iframe r10 q10
  ihave q11 := (back_half c 7 (M := slot sM 1 1) (sn m 1 1 c) rfl rfl) $$ [r11 q11]
  · iframe r11 q11
  ihave q20 := (back_half c 10 (M := slot sM 2 0) (sn m 2 0 c) rfl rfl) $$ [r20 q20]
  · iframe r20 q20
  ihave q21 := (back_half c 11 (M := slot sM 2 1) (sn m 2 1 c) rfl rfl) $$ [r21 q21]
  · iframe r21 q21
  ihave Hx := (x_close c (G m)) $$ [Hx Hx0 Hx1]
  · icases Hx with ⟨Hx, Hxq⟩
    iframe Hx Hxq Hx0 Hx1
  iapply Hk
  iframe HO Hz s0 s1 s2 s3 s4 s5 s6 s7 s8 s9 s10 s11 s12 s13 t0 t1 t2 t3 t4 t5 t6 t7 t8 t9 t10 t11 t12 t13 Hx
  iframe p00 p01 p10 p11 p20 p21 a00 a01 a10 a11 a20 a21 q00 q01 q10 q11 q20 q21 b00 b01 b10 b11 b20 b21 g0 g1 g2 g3 g4 g5 g6 g7

end Cert.KernelIdeal.Mlp

end
-- ==== Proof.Mlp.KernelIdeal.Data.lean ====
/-
The launch's data: scratch arrays, staged contents, and the body as the launch calls it.
-/
module

public import proofs.«01_k».proof.Proof.Mlp.KernelIdeal.Body
public import Idealize.ShloMosaic.Lib.Ring

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## A scratch array and its six places -/

/-- Places differ in their layer or their half, -/
theorem slotR_disj {a b : Fin 3 × Fin 2} (hab : a ≠ b) : Disjoint (slotR a.1 a.2).set (slotR b.1 b.2).set := by
  rw [Finset.disjoint_left]
  intro i h1 h2
  rw [Rect.mem_set_unit] at h1 h2
  have e1 := h1 0; have e2 := h2 0; have e3 := h1 1; have e4 := h2 1
  have t1 : a.1.val ≤ (i 0).val ∧ (i 0).val < a.1.val + 1 := e1
  have t2 : b.1.val ≤ (i 0).val ∧ (i 0).val < b.1.val + 1 := e2
  have t3 : a.2.val ≤ (i 1).val ∧ (i 1).val < a.2.val + 1 := e3
  have t4 : b.2.val ≤ (i 1).val ∧ (i 1).val < b.2.val + 1 := e4
  exact hab (Prod.ext (Fin.ext (by omega)) (Fin.ext (by omega)))

set_option backward.proofsInPublic true in
/-- and every element is in one. -/
theorem slotR_mem (i : S3x2x256x128.Idx) : i ∈ (slotR (i 0) (i 1)).set := by
  rw [Rect.mem_set_unit]
  intro a
  have h2 : (i 2).val < 256 := (i 2).isLt
  have h3 : (i 3).val < 128 := (i 3).isLt
  fin_cases a
  · exact ⟨Nat.le_refl _, Nat.lt_succ_self _⟩
  · exact ⟨Nat.le_refl _, Nat.lt_succ_self _⟩
  · exact ⟨Nat.zero_le _, by show (i 2).val < 0 + 256; omega⟩
  · exact ⟨Nat.zero_le _, by show (i 3).val < 0 + 128; omega⟩

/-- The elements of a place in the array. -/
def slotSet (M : Memref sig .tc .vmem S3x2x256x128 .bf16) (a : Fin 3 × Fin 2) : Finset M.view.ty.Idx := M.view.setOn (slotR a.1 a.2).set

/-- Two places of a scratch array share no element. -/
theorem slots_disj (M : Memref sig .tc .vmem S3x2x256x128 .bf16) (a b : Fin 3 × Fin 2) (hab : a ≠ b) : Disjoint (slotSet M a) (slotSet M b) :=
  (Finset.disjoint_map _).mpr (slotR_disj hab)

/-- The six places fill a scratch array. -/
theorem slots_cover (M : Memref sig .tc .vmem S3x2x256x128 .bf16) (hM : M.view.set = Finset.univ) : Finset.univ.biUnion (slotSet M) = Finset.univ := by
  refine Finset.eq_univ_iff_forall.mpr fun i => ?_
  have hi : i ∈ M.view.set := hM ▸ Finset.mem_univ i
  obtain ⟨j, -, rfl⟩ := Finset.mem_map.mp hi
  exact Finset.mem_biUnion.mpr ⟨(j 0, j 1), Finset.mem_univ _, Finset.mem_map_of_mem _ (slotR_mem j)⟩

/-- What is held at every place, place by place. -/
theorem bigSep_six (Φ : Fin 3 × Fin 2 → sProp 𝕄) :
    bigSep Finset.univ Φ = iprop(Φ (0, 0) ∗ Φ (0, 1) ∗ Φ (1, 0) ∗ Φ (1, 1) ∗ Φ (2, 0) ∗ Φ (2, 1)) :=
  bigSep_univ_eq_bigSepL [(0, 0), (0, 1), (1, 0), (1, 1), (2, 0), (2, 1)] (by decide) (by decide) Φ

/-- A place held through its own view, and through the whole array. -/
theorem slot_pts (c : Dev nD) (M : Memref sig .tc .vmem S3x2x256x128 .bf16) (a : Fin 3 × Fin 2) (f : Buf (Elt F) (M.view.loc (c : Thread nD τ))) :
    (((slot M a.1 a.2).view.loc (c : Thread nD τ)) ↦[(slot M a.1 a.2).view.set]{fullShare} f : sProp 𝕄)
      = ((M.view.loc (c : Thread nD τ)) ↦[slotSet M a]{fullShare} f) :=
  congrArg (fun S : Finset M.view.ty.Idx => ((M.view.loc (c : Thread nD τ)) ↦[S]{fullShare} f : sProp 𝕄)) (slot_view_set M a.1 a.2)

/-- A free place is its elements of the array, with some contents; -/
theorem slot_elim (c : Dev nD) (M : Memref sig .tc .vmem S3x2x256x128 .bf16) (a : Fin 3 × Fin 2) :
    (free c (slot M a.1 a.2) : sProp 𝕄) ⊢ iprop(∃ f, M.view.loc (c : Thread nD τ) ↦[slotSet M a]{fullShare} f) := by
  unfold free owns
  iintro ⟨%X, %f, -, H⟩; iexists f; iapply (Entails.of_eq (slot_pts c M a f)); iexact H
/-- and its elements of the array are a free place. -/
theorem slot_intro (c : Dev nD) (M : Memref sig .tc .vmem S3x2x256x128 .bf16) (a : Fin 3 × Fin 2) (f : Buf (Elt F) (M.view.loc (c : Thread nD τ))) :
    (M.view.loc (c : Thread nD τ) ↦[slotSet M a]{fullShare} f : sProp 𝕄) ⊢ free c (slot M a.1 a.2) := by
  unfold free owns
  iintro H; iexists _; iexists f
  isplitr; · ipureintro; rfl
  iapply (Entails.of_eq (slot_pts c M a f).symm); iexact H

/-- A whole scratch array falls into its six places. -/
theorem scr_split (c : Dev nD) (M : Memref sig .tc .vmem S3x2x256x128 .bf16) (hM : M.view.set = Finset.univ)
    (f : Buf (Elt F) (M.view.loc (c : Thread nD τ))) : (M.view.loc (c : Thread nD τ) ↦{fullShare} f : sProp 𝕄) ⊢ six c M := by
  refine (Entails.of_eq (Ring.pointsTo_blocks (ℓ := M.view.loc (c : Thread nD τ)) (slotSet M) (slots_disj M) (slots_cover M hM) f)).trans ?_
  refine (show bigSep Finset.univ (fun a : Fin 3 × Fin 2 => (M.view.loc (c : Thread nD τ) ↦[slotSet M a]{fullShare} f : sProp 𝕄))
      ⊢ bigSep Finset.univ (fun a : Fin 3 × Fin 2 => free c (slot M a.1 a.2)) from bigSep_mono fun a _ => slot_intro c M a f).trans ?_
  exact Entails.of_eq (bigSep_six fun a => free c (slot M a.1 a.2))

/-- A whole scratch array is its six places, -/
theorem scr_open (c : Dev nD) (M : Memref sig .tc .vmem S3x2x256x128 .bf16) (hM : M.view.set = Finset.univ) :
    iprop(∃ f, M.view.loc (c : Thread nD τ) ↦{fullShare} f) ⊢ (six c M : sProp 𝕄) :=
  exists_elim fun f => scr_split c M hM f

/-- The six places join to the whole array, given that it has some contents. -/
theorem scr_join (c : Dev nD) (M : Memref sig .tc .vmem S3x2x256x128 .bf16) (hM : M.view.set = Finset.univ)
    (f : Buf (Elt F) (M.view.loc (c : Thread nD τ))) : (six c M : sProp 𝕄) ⊢ iprop(∃ f, M.view.loc (c : Thread nD τ) ↦{fullShare} f) := by
  refine (Entails.of_eq (bigSep_six fun a => free c (slot M a.1 a.2)).symm).trans ?_
  refine (show bigSep Finset.univ (fun a : Fin 3 × Fin 2 => (free c (slot M a.1 a.2) : sProp 𝕄))
      ⊢ bigSep Finset.univ (fun a : Fin 3 × Fin 2 => iprop(∃ f, M.view.loc (c : Thread nD τ) ↦[slotSet M a]{fullShare} f))
    from bigSep_mono fun a _ => slot_elim c M a).trans ?_
  exact Ring.pointsTo_blocks_join_exists (ℓ := M.view.loc (c : Thread nD τ)) (slotSet M) (slots_disj M) (slots_cover M hM) f

/-- and they are the array. -/
theorem scr_close (c : Dev nD) (M : Memref sig .tc .vmem S3x2x256x128 .bf16) (hM : M.view.set = Finset.univ) :
    (six c M : sProp 𝕄) ⊢ iprop(∃ f, M.view.loc (c : Thread nD τ) ↦{fullShare} f) := by
  iintro ⟨H0, H⟩
  ihave H0 := (slot_elim c M (0, 0)) $$ H0
  icases H0 with ⟨%f, H0⟩
  ihave H0 := (slot_intro c M (0, 0) f) $$ H0
  iapply (scr_join c M hM f) $$ [H0 H]
  isplitl [H0] <;> iassumption

/-! ## The data of the launch -/

variable (ρ : Dev nD → PrngReg)

/-- The memory at launch: any contents, every semaphore at zero, any generator registers. -/
def s₀ : MemSt nD τ sig (Elt F) := ⟨m, fun _ => 0, ρ⟩

/-- A whole array at some contents. -/
abbrev some_ (c : Dev nD) (b : Ref sig .tc) : sProp 𝕄 := iprop(∃ f : Buf (Elt F) ((c : Thread nD τ).loc b), ((c : Thread nD τ).loc b) ↦{fullShare} f)

/-- The five scratch arrays. -/
abbrev scratch (c : Dev nD) : sProp 𝕄 :=
  iprop(some_ c cc0_scratch0 ∗ some_ c cc0_scratch1 ∗ some_ c cc0_scratch2 ∗ some_ c cc0_scratch3 ∗ some_ c cc0_scratch4)

/-- What a device has for the handshake. -/
abbrev toMeet (c : Dev nD) : sProp 𝕄 :=
  iprop(dutyTok ER (barCell (pa c)) 0 true ∗ dutyTok ER (barCell (pb c)) 0 false ∗ cred (tallyAt (barCell c) () 2) ∗ atPos ER (barCell c) 0 ∅ 0)

/-- What a device starts with besides its arrays, -/
def start (c : Dev nD) : sProp 𝕄 :=
  iprop((∃ K, records m K) ∗ levAts L lv ∗ toMeet c ∗ fourteen (fun j => toSend j c) ∗ fourteen (fun j => toRecv j c))

/-- before the body -/
def Φ₀ (c : Dev nD) : sProp 𝕄 := iprop(start m c ∗ scratch c)
/-- and after it. -/
def Φ₁ (c : Dev nD) : sProp 𝕄 :=
  iprop(scratch c ∗ semVal (barCell c) 0 ∗ fourteen (fun j => sDone j c) ∗ fourteen (fun j => rDone j c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => w0 m c
    | ⟨2, _⟩ => v0 m c
    | ⟨3, _⟩ => w1 m c
    | ⟨4, _⟩ => v1 m c
    | ⟨5, _⟩ => w2 m c
    | ⟨6, _⟩ => v2 m c
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer owned through its view is the buffer held with those contents. -/
theorem owns_all (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer with stated contents. -/
abbrev holds (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- A staging buffer with stated contents is the staged buffer as the body uses it; -/
theorem holds_elim (c : Dev nD) (b : Ref sig .tc) (X : b.ty.Contents (Elt F)) : holds c b X ⊢ (stg c b X : sProp 𝕄) := by
  iintro ⟨%f, %hf, H⟩; subst hf; iexact H
/-- and the other way. -/
theorem holds_intro (c : Dev nD) (b : Ref sig .tc) (X : b.ty.Contents (Elt F)) : stg c b X ⊢ (holds c b X : sProp 𝕄) := by
  iintro H; iexists X; isplitr; · ipureintro; rfl
  iexact H

/-- What a staged argument holds when the body starts. -/
theorem before_in (c : Dev nD) (w : Fin 8) (hw : (cfg0.win w).fetch t0_0 = true) (d) :
    (dats m ρ 0 c).before w t0_0 d = (dats m ρ 0 c).fetched w t0_0 d := by
  unfold Dat.before; rw [if_pos hw]

abbrev bodyPre (c : Dev nD) : sProp 𝕄 :=
  iprop(Φ₀ m c ∗ (dats m ρ 0 c).owesAt () t0_0.castSucc
    ∗ (∃ d, holds c cc0_stg0_0 ((dats m ρ 0 c).before (0 : Fin 8) t0_0 d)) ∗ (∃ d, holds c cc0_stg1_0 ((dats m ρ 0 c).before (1 : Fin 8) t0_0 d))
    ∗ (∃ d, holds c cc0_stg2_0 ((dats m ρ 0 c).before (2 : Fin 8) t0_0 d)) ∗ (∃ d, holds c cc0_stg3_0 ((dats m ρ 0 c).before (3 : Fin 8) t0_0 d))
    ∗ (∃ d, holds c cc0_stg4_0 ((dats m ρ 0 c).before (4 : Fin 8) t0_0 d)) ∗ (∃ d, holds c cc0_stg5_0 ((dats m ρ 0 c).before (5 : Fin 8) t0_0 d))
    ∗ (∃ d, holds c cc0_stg6_0 ((dats m ρ 0 c).before (6 : Fin 8) t0_0 d)) ∗ (∃ d, holds c cc0_stg7_0 ((dats m ρ 0 c).before (7 : Fin 8) t0_0 d)))

abbrev bodyPost (c : Dev nD) : sProp 𝕄 :=
  iprop(Φ₁ c ∗ (dats m ρ 0 c).owesAt () t0_0.succ
    ∗ holds c cc0_stg0_0 (xs m c) ∗ holds c cc0_stg1_0 (w0 m c) ∗ holds c cc0_stg2_0 (v0 m c) ∗ holds c cc0_stg3_0 (w1 m c)
    ∗ holds c cc0_stg4_0 (v1 m c) ∗ holds c cc0_stg5_0 (w2 m c) ∗ holds c cc0_stg6_0 (v2 m c) ∗ holds c cc0_stg7_0 (outAt m c))

/-- A staged argument as the body takes it. -/
theorem stage_in (c : Dev nD) (b : Ref sig .tc) (X : b.ty.Contents (Elt F)) {D : Type} {Y : D → b.ty.Contents (Elt F)}
    (h : ∀ d, Y d = X) : iprop(∃ d, holds c b (Y d)) ⊢ (stg c b X : sProp 𝕄) := by
  iintro ⟨%d, H⟩; rw [h d]; iapply (holds_elim c b X) $$ H

/-- The four scratch arrays of places are taken whole. -/
theorem sM_whole : pM.view.set = Finset.univ ∧ aM.view.set = Finset.univ ∧ sM.view.set = Finset.univ ∧ bM.view.set = Finset.univ :=
  ⟨View.set_whole _, View.set_whole _, View.set_whole _, View.set_whole _⟩

/-- The scratch buffers at the body's start: the gathered activations whole, and the places of the four arrays. -/
theorem scratch_open (c : Dev nD) :
    scratch c ⊢ (iprop((∃ f, xPts c Finset.univ fullShare f) ∗ six c pM ∗ six c aM ∗ six c sM ∗ six c bM) : sProp 𝕄) := by
  iintro ⟨⟨%f, Hx⟩, Hp, Ha, Hs, Hb⟩
  isplitl [Hx]; · iexists f; unfold xPts; iexact Hx
  isplitl [Hp]; · iapply (scr_open c pM sM_whole.1) $$ Hp
  isplitl [Ha]; · iapply (scr_open c aM sM_whole.2.1) $$ Ha
  isplitl [Hs]; · iapply (scr_open c sM sM_whole.2.2.1) $$ Hs
  iapply (scr_open c bM sM_whole.2.2.2) $$ Hb

/-- The same at its end. -/
theorem scratch_close (c : Dev nD) (f) :
    iprop(xPts c Finset.univ fullShare f ∗ six c pM ∗ six c aM ∗ six c sM ∗ six c bM) ⊢ (scratch c : sProp 𝕄) := by
  iintro ⟨Hx, Hp, Ha, Hs, Hb⟩
  isplitl [Hx]; · iexists f; unfold xPts; iexact Hx
  isplitl [Hp]; · iapply (scr_close c pM sM_whole.1) $$ Hp
  isplitl [Ha]; · iapply (scr_close c aM sM_whole.2.1) $$ Ha
  isplitl [Hs]; · iapply (scr_close c sM sM_whole.2.2.1) $$ Hs
  iapply (scr_close c bM sM_whole.2.2.2) $$ Hb

set_option maxRecDepth 65536 in
set_option maxHeartbeats 4000000 in
/-- The body, from what the launch stages for it to what the launch takes back. -/
theorem body_sound (c : Dev nD) : bodyPre m ρ c ⊢ run c (onArgs (cc0_body (F := F))) (fun _ => bodyPost m ρ c) := by
  unfold bodyPre Φ₀ start
  iintro ⟨⟨⟨⟨%K, #HR⟩, #HL, Hb, Hs, Ht⟩, Hsc⟩, Ho, g0, g1, g2, g3, g4, g5, g6, ⟨%d7, g7⟩⟩
  ihave g0 := (stage_in c cc0_stg0_0 (xs m c) fun d => (before_in m ρ c 0 (fetch0_0 t0_0) d).trans rfl) $$ g0
  ihave g1 := (stage_in c cc0_stg1_0 (w0 m c) fun d => (before_in m ρ c 1 (fetch0_1 t0_0) d).trans rfl) $$ g1
  ihave g2 := (stage_in c cc0_stg2_0 (v0 m c) fun d => (before_in m ρ c 2 (fetch0_2 t0_0) d).trans rfl) $$ g2
  ihave g3 := (stage_in c cc0_stg3_0 (w1 m c) fun d => (before_in m ρ c 3 (fetch0_3 t0_0) d).trans rfl) $$ g3
  ihave g4 := (stage_in c cc0_stg4_0 (v1 m c) fun d => (before_in m ρ c 4 (fetch0_4 t0_0) d).trans rfl) $$ g4
  ihave g5 := (stage_in c cc0_stg5_0 (w2 m c) fun d => (before_in m ρ c 5 (fetch0_5 t0_0) d).trans rfl) $$ g5
  ihave g6 := (stage_in c cc0_stg6_0 (v2 m c) fun d => (before_in m ρ c 6 (fetch0_6 t0_0) d).trans rfl) $$ g6
  ihave g7 := (holds_elim c cc0_stg7_0 _) $$ g7
  ihave Hsc := (scratch_open c) $$ Hsc
  icases Hsc with ⟨Hx, Hsc⟩
  unfold Dat.owesAt Pipeline.owesWithin
  icases Ho with ⟨%W, %hW, HO⟩
  iapply (run_body (m := m) (K := K) c) $$ [HO Hb Hs Ht Hx Hsc g0 g1 g2 g3 g4 g5 g6 g7]
  · iframe HR HL Hb Hs Ht Hx Hsc g0 g1 g2 g3 g4 g5 g6
    isplitl [HO]; · iexists W; iexact HO
    iexists _; iexact g7
  iintro ⟨HO, Hz, Hs, Ht, Hx, Hsc, ⟨g0, g1, g2, g3, g4, g5, g6⟩, g7⟩
  unfold bodyPost Φ₁
  ihave g0 := (holds_intro c cc0_stg0_0 _) $$ g0
  ihave g1 := (holds_intro c cc0_stg1_0 _) $$ g1
  ihave g2 := (holds_intro c cc0_stg2_0 _) $$ g2
  ihave g3 := (holds_intro c cc0_stg3_0 _) $$ g3
  ihave g4 := (holds_intro c cc0_stg4_0 _) $$ g4
  ihave g5 := (holds_intro c cc0_stg5_0 _) $$ g5
  ihave g6 := (holds_intro c cc0_stg6_0 _) $$ g6
  ihave g7 := (holds_intro c cc0_stg7_0 _) $$ g7
  iframe g0 g1 g2 g3 g4 g5 g6 g7 Hz Hs Ht
  isplitl [Hx Hsc]
  · iapply (scratch_close c (G m)) $$ [Hx Hsc]
    isplitl [Hx] <;> iassumption
  unfold owed Dat.owesAt Pipeline.owesWithin
  rw [show (dats m ρ 0 c).owed t0_0.succ = 0 from rfl, rem_last]
  icases HO with ⟨%W', HO⟩
  iexists W'
  isplitr; · ipureintro; exact fun _ _ => Or.inl trivial
  iexact HO

/-- What is held for every window, window by window. -/
theorem bigSep_win (Φ : Fin cfg0.W → sProp 𝕄) : bigSep Finset.univ Φ
    = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

set_option maxRecDepth 65536 in
/-- The library's obligation of the body. -/
theorem body_obligation (c : Dev nD) : BodyObligation (dats (F := F) m ρ 0 c) (defs₀ (F := F)) 𝒱₀ () Set.univ := fun t => by
  rw [fin_N0 t]
  rw [bigSep_win, bigSep_win]
  simp only [owns_all]
  exact body_sound m ρ c

end Cert.KernelIdeal.Mlp

end
-- ==== Proof.Mlp.KernelIdeal.Launch.lean ====
/-
The launch: the protocol's state dealt to the devices, what they owe, and the run of the program.
-/
module

public import proofs.«01_k».proof.Proof.Mlp.KernelIdeal.Data
public import Idealize.ShloMosaic.Lib.Pipeline.CollectiveSegs
public import Idealize.ShloMosaic.Lib.Pipeline.Value

@[expose] public section

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch's own state -/

abbrev Cid : Type := Unit ⊕ (Fin 14 ⊕ Fin 14)
/-- A device's duties: its barrier's two, and one for each transfer's two semaphores. -/
abbrev Tid : Type := Bool ⊕ (Fin 14 ⊕ Fin 14)

/-- The kernel's own semaphores are told apart from the staging ones. -/
theorem ownSemFacts : Pipeline.OwnSemFacts cfg0.spec osem := by decide

/-- Every window is held whole. -/
theorem share_eq (c : Dev nD) (w : Fin cfg0.W) : (dats m ρ 0 c).share w = fullShare := by unfold Dat.share; split <;> rfl

/-- No two transfers share a send or receive semaphore; -/
theorem osem_injective : Function.Injective osem := by decide
/-- the barrier is none of them; -/
theorem csem_injective : Function.Injective csem := by
  rintro (⟨⟩ | k) (⟨⟩ | k') h
  · rfl
  · rcases k' with j | j <;> cases h
  · rcases k with j | j <;> cases h
  · exact congrArg _ (osem_injective h)

/-- and on different devices they are different cells. -/
theorem kcell_injective : Function.Injective (kcell : Dev nD × Cid → GSem nD τ sig) := by
  rintro ⟨c, k⟩ ⟨c', k'⟩ h
  have h1 : c = c' := congrArg (fun g : GSem nD τ sig => g.1.1) h
  have h2 : k = k' := csem_injective (congrArg Prod.snd h)
  rw [h1, h2]

abbrev tokOf (ct : Dev nD × Tid) : GSem nD τ sig × ℕ × Bool := match ct.2 with
  | .inl b => (barCell ct.1, 0, b)
  | .inr k => (kcell (ct.1, .inr k), 0, false)

/-- Every duty is one cell's, once. -/
theorem tokOf_injective : Function.Injective (tokOf : Dev nD × Tid → GSem nD τ sig × ℕ × Bool) := by
  rintro ⟨c, b | k⟩ ⟨c', b' | k'⟩ h
  · have h1 : c = c' := congrArg (fun x : GSem nD τ sig × ℕ × Bool => x.1.1.1) h
    have h2 : b = b' := congrArg (fun x : GSem nD τ sig × ℕ × Bool => x.2.2) h
    rw [h1, h2]
  · have := congrArg (fun x : GSem nD τ sig × ℕ × Bool => x.1) h
    have := kcell_injective (a₁ := (c, .inl ())) (a₂ := (c', .inr k')) this
    cases this
  · have := congrArg (fun x : GSem nD τ sig × ℕ × Bool => x.1) h
    have := kcell_injective (a₁ := (c, .inr k)) (a₂ := (c', .inl ())) this
    cases this
  · have := congrArg (fun x : GSem nD τ sig × ℕ × Bool => x.1) h
    have := kcell_injective (a₁ := (c, .inr k)) (a₂ := (c', .inr k')) this
    cases this; rfl

def theCells : Finset (GSem nD τ sig) := Finset.univ.map ⟨kcell, kcell_injective⟩
def theToks : Finset (GSem nD τ sig × ℕ × Bool) := Finset.univ.map ⟨tokOf, tokOf_injective⟩

def u₀ : UU :=
  (initOf (Pipeline.cells cfgs cellOf_inj) (Pipeline.launchToks cfgs cellOf_inj), initOf theCells theToks)

/-- The duties of device `c`'s own cells, -/
def toks (c : Dev nD) : sProp 𝕄 :=
  iprop((dutyTok ER (barCell c) 0 true ∗ dutyTok ER (barCell c) 0 false)
    ∗ (bigSep Finset.univ fun j : Fin 14 => dutyTok ER (sndCell j c) 0 false) ∗ bigSep Finset.univ fun j : Fin 14 => dutyTok ER (rcvCell j c) 0 false)
/-- and those that device `c` pays. -/
def pays (c : Dev nD) : sProp 𝕄 :=
  iprop((dutyTok ER (barCell (pa c)) 0 true ∗ dutyTok ER (barCell (pb c)) 0 false)
    ∗ (bigSep Finset.univ fun j : Fin 14 => dutyTok ER (sndCell j c) 0 false)
    ∗ bigSep Finset.univ fun j : Fin 14 => dutyTok ER (rcvCell j (tgt j c)) 0 false)

/-- What a device is dealt at the launch, -/
def dealt (c : Dev nD) : sProp 𝕄 :=
  iprop((bigSep Finset.univ fun k : Cid => roundState ER (Rd m) (kcell (c, k)) 0)
    ∗ (bigSep Finset.univ fun k : Cid => iprop(atPos ER (kcell (c, k)) 0 ∅ 0 ∗ reached ER (kcell (c, k)) 0)) ∗ toks c)

/-- and what it has once the cells are set up. -/
def ready (c : Dev nD) : sProp 𝕄 :=
  iprop((∃ K, records m K) ∗ (bigSep Finset.univ fun k : Cid => atPos ER (kcell (c, k)) 0 ∅ 0) ∗ pays c)

/-- What is held for both truth values. -/
theorem bigSep_bool (Φ : Bool → sProp 𝕄) : bigSep Finset.univ Φ = iprop(Φ true ∗ Φ false) :=
  bigSep_univ_eq_bigSepL [true, false] (by decide) (by decide) Φ
/-- What is held for the one value. -/
theorem bigSep_unit (Φ : Unit → sProp 𝕄) : bigSep Finset.univ Φ = Φ () :=
  bigSep_univ_eq_bigSepL [()] (by decide) (by decide) Φ
/-- What is held for every transfer, transfer by transfer. -/
theorem bigSep_fourteen (Φ : Fin 14 → sProp 𝕄) : bigSep Finset.univ Φ = fourteen Φ :=
  bigSep_univ_eq_bigSepL [0, 1, 2, 3, 4, 5, 6, 7, 8, 9, 10, 11, 12, 13] (by decide) (by decide) Φ

/-- What is held for either kind. -/
theorem bigSep_sum {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ

/-- A device's duty tokens: its barrier's two, its send semaphores' and its receive semaphores'. -/
theorem toks_eq (c : Dev nD) :
    (bigSep Finset.univ fun t : Tid => (dutyTok ER (tokOf (c, t)).1 (tokOf (c, t)).2.1 (tokOf (c, t)).2.2 : sProp 𝕄)) = toks c := by
  unfold toks
  rw [bigSep_sum, bigSep_sum, bigSep_bool]

/-- The starting resources are dealt out: every cell at its first round, every duty with its token. -/
theorem fund : BI.own (ER (initOf theCells theToks)) ⊢ (|==> bigSep Finset.univ (dealt m) : sProp 𝕄) := by
  have hX (Φ : GSem nD τ sig → sProp 𝕄) : bigSep theCells Φ = bigSep Finset.univ fun c : Dev nD => bigSep Finset.univ fun k : Cid => Φ (kcell (c, k)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => toks_eq c
  iintro HX
  imod (Rounds.fund ER (Rd m) theCells theToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  iframe Hst Hat Hr Htok

abbrev ownZ (c : Dev nD) : sProp 𝕄 := Pipeline.ownSems0 (Ix := Unit) (Name := ℕ) (U := UU) (Lvl := ℕ) (Val := Elt F) (τ := τ) osem c

/-- The launch hands over the send and receive semaphores -/
theorem ownZ_eq (c : Dev nD) : (ownZ c : sProp 𝕄)
    = iprop((bigSep Finset.univ fun j : Fin 14 => semVal (sndCell j c) 0) ∗ bigSep Finset.univ fun j : Fin 14 => semVal (rcvCell j c) 0) :=
  bigSep_univ_sum _
/-- and the barrier. -/
theorem unscopedZ_eq (c : Dev nD) : (unscopedSems0 c : sProp 𝕄) = semVal (barCell c) 0 := by
  unfold unscopedSems0; rw [bigSep_eq_bigSepL_of_eq [SemLoc.reg barS] (by decide) (by decide)]; rfl

/-- All of a device's cells stand at zero. -/
theorem allZ_eq (c : Dev nD) : iprop(ownZ c ∗ unscopedSems0 c) ⊢ (bigSep Finset.univ fun k : Cid => semVal (kcell (c, k)) 0 : sProp 𝕄) := by
  rw [unscopedZ_eq, bigSep_sum, bigSep_unit]
  iintro ⟨H, HB⟩
  isplitl [HB]; · iexact HB
  iapply (show (ownZ c : sProp 𝕄) ⊢ bigSep Finset.univ fun b => semVal (kcell (c, .inr b)) 0 from .rfl) $$ H

/-- Each device's cells are put under their invariants. -/
theorem core_alloc (c : Dev nD) :
    iprop(ownZ c ∗ unscopedSems0 c ∗ dealt m c)
      ⊢ |={Set.univ}=> iprop((bigSep Finset.univ fun k : Cid => iprop(∃ κ : ℕ, cellInv ER (Rd m) κ (kcell (c, k))))
          ∗ (bigSep Finset.univ fun k : Cid => iprop(atPos ER (kcell (c, k)) 0 ∅ 0 ∗ reached ER (kcell (c, k)) 0)) ∗ toks c) := by
  unfold dealt
  iintro ⟨Hos, Hus, Hst, Hat, Htok⟩
  ihave Hv := (allZ_eq (F := F) c) $$ [Hos Hus]
  · isplitl [Hos] <;> iassumption
  imod (show iprop((bigSep Finset.univ fun k : Cid => semVal (kcell (c, k)) 0) ∗ bigSep Finset.univ fun k : Cid => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  iframe Hinv Hat Htok

def paE : Dev nD ≃ Dev nD := ⟨pa, pa, pa_pa, pa_pa⟩
def pbE : Dev nD ≃ Dev nD := ⟨pb, pb, pb_pb, pb_pb⟩
def tgtE : Dev nD × Fin 14 ≃ Dev nD × Fin 14 :=
  ⟨fun p => (tgt p.2 p.1, p.2), fun p => (tgt p.2 p.1, p.2), fun p => Prod.ext (tgt_tgt _ _) rfl, fun p => Prod.ext (tgt_tgt _ _) rfl⟩

/-- Each duty goes to the device that pays it. -/
theorem toks_around : (bigSep Finset.univ fun c : Dev nD => (toks c : sProp 𝕄)) ⊢ bigSep Finset.univ fun c : Dev nD => pays c := by
  have hR : (bigSep Finset.univ fun c : Dev nD => bigSep Finset.univ fun j : Fin 14 => (dutyTok ER (rcvCell j c) 0 false : sProp 𝕄))
      = bigSep Finset.univ fun c : Dev nD => bigSep Finset.univ fun j : Fin 14 => dutyTok ER (rcvCell j (tgt j c)) 0 false := by
    rw [← bigSep_univ_prod (fun p : Dev nD × Fin 14 => (dutyTok ER (rcvCell p.2 p.1) 0 false : sProp 𝕄)),
      ← bigSep_univ_prod (fun p : Dev nD × Fin 14 => (dutyTok ER (rcvCell p.2 (tgt p.2 p.1)) 0 false : sProp 𝕄))]
    exact bigSep_univ_equiv tgtE fun p : Dev nD × Fin 14 => (dutyTok ER (rcvCell p.2 p.1) 0 false : sProp 𝕄)
  unfold toks pays
  rw [bigSep_sep', bigSep_sep', bigSep_sep', bigSep_sep', bigSep_sep', bigSep_sep', hR,
    bigSep_univ_equiv paE (fun c : Dev nD => (dutyTok ER (barCell c) 0 true : sProp 𝕄)),
    bigSep_univ_equiv pbE (fun c : Dev nD => (dutyTok ER (barCell c) 0 false : sProp 𝕄))]
  exact .rfl

/-- A fact that lasts goes to every device. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells are known to everyone, and every token goes to the device that performs the duty. -/
theorem regroup :
    (bigSep Finset.univ fun c : Dev nD => iprop((bigSep Finset.univ fun k : Cid => iprop(∃ κ : ℕ, cellInv ER (Rd m) κ (kcell (c, k))))
          ∗ (bigSep Finset.univ fun k : Cid => iprop(atPos ER (kcell (c, k)) 0 ∅ 0 ∗ reached ER (kcell (c, k)) 0)) ∗ toks c) : sProp 𝕄)
      ⊢ bigSep Finset.univ (ready m) := by
  rw [bigSep_sep', bigSep_sep', ← bigSep_univ_prod (fun ck : Dev nD × Cid => iprop(∃ κ : ℕ, cellInv ER (Rd m) κ (kcell ck))),
    bigSep_congr (s := Finset.univ) (fun (c : Dev nD) _ => bigSep_sep' Finset.univ (fun k : Cid => (atPos ER (kcell (c, k)) 0 ∅ 0 : sProp 𝕄)) (fun k => reached ER (kcell (c, k)) 0)),
    bigSep_sep', ← bigSep_univ_prod (fun ck : Dev nD × Cid => (reached ER (kcell ck) 0 : sProp 𝕄))]
  iintro ⟨HI, ⟨Hat, #HR⟩, Htok⟩
  ihave HK := (BI.bigSep_exists_pi Finset.univ (fun (ck : Dev nD × Cid) (κ : ℕ) => (cellInv ER (Rd m) κ (kcell ck) : sProp 𝕄))) $$ HI
  icases HK with ⟨%K, #HI⟩
  ihave Htk := (toks_around (F := F)) $$ Htok
  iapply (bigSep_share (R := records m K)
    (Φ := fun c => iprop((bigSep Finset.univ fun k : Cid => atPos ER (kcell (c, k)) 0 ∅ 0) ∗ pays c)) fun c _ => by
      unfold ready; iintro ⟨#H, Ha, Hp⟩; iframe Ha Hp; iexists K; iexact H)
  isplitr
  · unfold records; isplitl; · iexact HI
    iexact HR
  · rw [bigSep_sep']; isplitl [Hat] <;> iassumption

/-- So all the devices together become ready. -/
theorem glob : (bigSep Finset.univ fun c => iprop(ownZ c ∗ unscopedSems0 c ∗ dealt m c) : sProp 𝕄) ⊢ |={Set.univ}=> bigSep Finset.univ (ready m) :=
  ((bigSep_mono fun c _ => core_alloc m c).trans (bigSep_fupd _ _)).trans (BI.fupd_mono (regroup m))

/-! ## What is owed at the launch -/

/-- Barriers are told apart by their devices; -/
theorem bar_eq_iff {a b : Dev nD} : Iff (barCell a = barCell b) (a = b) :=
  ⟨fun h => congrArg (fun g : GSem nD τ sig => g.1.1) h, fun h => h ▸ rfl⟩
/-- receive semaphores by transfer and device; -/
theorem rcv_eq_iff {i j : Fin 14} {a b : Dev nD} : Iff (rcvCell i a = rcvCell j b) (i = j ∧ a = b) :=
  ⟨fun h => by
    have := kcell_injective (a₁ := (a, .inr (.inr i))) (a₂ := (b, .inr (.inr j))) h
    cases this; exact ⟨rfl, rfl⟩, fun h => by rw [h.1, h.2]⟩
/-- and none is a barrier. -/
theorem rcv_ne_bar (j : Fin 14) (a b : Dev nD) : rcvCell j a ≠ barCell b := fun h => by cases congrArg Prod.snd h

/-- What a device's transfers owe one cell. -/
theorem rem_at (d : Dev nD) (g : GSem nD τ sig) : rem 0 d g () = ∑ j : Fin 14, if g = rcvCell j (tgt j d) then amt j else 0 := by
  unfold rem
  rw [Finset.filter_true_of_mem fun j _ => Nat.zero_le _, Finset.sum_apply, Finsupp.finset_sum_apply]
  exact Finset.sum_congr rfl fun j _ => by rw [tallyAt_apply]; exact if_congr (and_iff_left rfl) rfl rfl

/-- What a device owes one cell at the start. -/
theorem owed_at (d : Dev nD) (g : GSem nD τ sig) :
    O₀ d g () = rem 0 d g () + (if g = barCell (pb d) then 1 else 0) + (if g = barCell (pa d) then 1 else 0) := by
  unfold O₀ O₁
  rw [Pi.add_apply, Finsupp.add_apply, Pi.add_apply, Finsupp.add_apply, tallyAt_apply, tallyAt_apply]
  exact congrArg₂ (· + ·) (congrArg₂ (· + ·) rfl (if_congr (and_iff_left rfl) rfl rfl)) (if_congr (and_iff_left rfl) rfl rfl)

/-- A barrier is owed one unit by each of its device's two partners; -/
theorem owed_bar (d c : Dev nD) : O₀ d (barCell c) () = (if d = pb c then 1 else 0) + (if d = pa c then 1 else 0) := by
  rw [owed_at, rem_at, Finset.sum_eq_zero fun j _ => if_neg fun h => rcv_ne_bar _ _ _ h.symm, Nat.zero_add]
  refine congrArg₂ (· + ·) (if_congr ?_ rfl rfl) (if_congr ?_ rfl rfl)
  · rw [bar_eq_iff]; exact ⟨fun h => by rw [h, pb_pb], fun h => by rw [h, pb_pb]⟩
  · rw [bar_eq_iff]; exact ⟨fun h => by rw [h, pa_pa], fun h => by rw [h, pa_pa]⟩

/-- a receive semaphore its bytes by the device that sends to it. -/
theorem owed_rcv (j : Fin 14) (d c : Dev nD) : O₀ d (rcvCell j c) () = if d = tgt j c then amt j else 0 := by
  rw [owed_at, rem_at, if_neg (rcv_ne_bar _ _ _), if_neg (rcv_ne_bar _ _ _), Nat.add_zero,
    Finset.sum_eq_single j (fun i _ hi => if_neg fun h => hi (rcv_eq_iff.mp h).1.symm) (fun h => absurd (Finset.mem_univ _) h)]
  exact if_congr (rcv_eq_iff.trans ⟨fun h => by rw [h.2, tgt_tgt], fun h => ⟨rfl, by rw [h, tgt_tgt]⟩⟩) rfl rfl

/-- So a barrier is credited with two units in all, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (pb c) fun _ => 1, Finset.sum_ite_eq' Finset.univ (pa c) fun _ => 1, if_pos (Finset.mem_univ _), if_pos (Finset.mem_univ _)]

/-- and a receive semaphore with its bytes. -/
theorem launch_rcv (j : Fin 14) (c : Dev nD) :
    tallyOn (rcvCell j c) (launchCredit (Pipeline.owing O₀) 0 (rcvCell j c)) = (tallyAt (rcvCell j c) () (amt j) : CellTallies nD τ sig Unit) := by
  unfold tallyAt; refine congrArg _ (Finsupp.ext fun u => ?_); cases u
  rw [Pipeline.launchCredit_owing, Finsupp.single_eq_same, Finset.sum_congr rfl fun d _ => owed_rcv j d c,
    Finset.sum_ite_eq' Finset.univ (tgt j c) fun _ => amt j, if_pos (Finset.mem_univ _)]

/-- A device is credited with its barrier's two units and each receive semaphore's bytes. -/
theorem creds (c : Dev nD) :
    (Pipeline.launchCred O₀ c : sProp 𝕄) ⊢ iprop(cred (tallyAt (barCell c) () 2) ∗ bigSep Finset.univ fun j : Fin 14 => cred (tallyAt (rcvCell j c) () (amt j))) := by
  unfold Pipeline.launchCred
  rw [bigSep_univ_at _ (SemLoc.reg barS), launch_bar]
  refine sep_mono_right ?_
  have hinj : Function.Injective fun j : Fin 14 => (SemLoc.dma (rcvS j) : SemLoc sig) := fun i j h => by
    have := osem_injective (a₁ := .inr i) (a₂ := .inr j) h
    cases this; rfl
  refine (bigSep_subset (t := Finset.univ.map ⟨_, hinj⟩) fun s hs => ?_).trans ?_
  · obtain ⟨j, -, rfl⟩ := Finset.mem_map.mp hs
    exact Finset.mem_erase.mpr ⟨(by intro h; cases h), Finset.mem_univ _⟩
  · rw [bigSep_map]
    exact bigSep_mono fun j _ => Entails.of_eq (congrArg (fun T : CellTallies nD τ sig Unit => (cred T : sProp 𝕄)) (launch_rcv j c))

/-! ## The launch -/

/-- A device that is ready, with the levels and its credits, can start the body. -/
theorem start_of (c : Dev nD) :
    iprop(ready m c ∗ levAts L lv ∗ cred (tallyAt (barCell c) () 2) ∗ bigSep Finset.univ fun j : Fin 14 => cred (tallyAt (rcvCell j c) () (amt j)))
      ⊢ start m c := by
  unfold ready pays start
  rw [bigSep_sum, bigSep_sum, bigSep_unit, ← bigSep_fourteen, ← bigSep_fourteen]
  iintro ⟨⟨HK, ⟨HaB, HaS, HaR⟩, ⟨Ht, Hf⟩, HtS, HtR⟩, HL, HcB, HcR⟩
  iframe HK HL Ht Hf HcB HaB
  isplitl [HtS HtR HaS]
  · unfold toSend; simp only [bigSep_sep']; iframe HtS HtR HaS
  · unfold toRecv; simp only [bigSep_sep']; iframe HcR HaR

/-- What the launch gives a device is enough to start. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m c)
      ⊢ |={Set.univ}=> iprop(start m c ∗ emp) := by
  iintro ⟨-, HL, Hc, -, HG⟩
  ihave Hc := (creds (F := F) c) $$ Hc
  icases Hc with ⟨H1, HN⟩
  imodintro
  isplitl
  · iapply (start_of m c) $$ [HL H1 HN HG]
    iframe HL H1 HN HG
  · iempintro

/-- The scratch buffers join it when the body is entered; -/
theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs] <;> iassumption

/-- and scratch buffers and semaphores come back when it is left. -/
theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, show Pipeline.ownSems0 osem c = ownZ c from rfl, ownZ_eq, unscopedZ_eq,
    bigSep_fourteen, bigSep_fourteen]
  unfold Φ₁ sDone rDone
  iintro ⟨Hr, HB, HS, HV⟩
  iframe HB HS HV Hr

/-- The staging copies' waits are below everything owed. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-- What an array holds after the run. -/
def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, every fair run of the four devices ends, with the arrays as computed and
    every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

/-- The arguments are unchanged, -/
theorem finalA_in (c : Dev nD) (w : Fin 8) (hw : (cfg0.win w).isOut = false) : finalA m ρ c w = m ((cfg0.win w).arr.view.loc (c : Thread nD τ)) :=
  (dats (F := F) m ρ 0 c).arrAt_in w hw _

/-- and the result array holds what the body left in its staging buffer. -/
theorem flushed_out (c : Dev nD) (t : Fin cfg0.N) (hf : (cfg0.win 7).flush t = true) :
    (dats m ρ 0 c).flushed 7 t = ((cfg0.win 7).blk t).view.read (Elt F) (outAt m c : Buf (Elt F) ((cfg0.win 7).arr.view.loc (c : Thread nD τ))) := by
  rw [fin_N0 t]
  have h0 : (fun a => win0_7.index t0_0 a * main_v1.ty.shape.size a) = fun _ => 0 := funext fun a => by fin_cases a <;> decide
  exact (Memref.read_access_unit_zero (Elt F) main_v1 h0 (fun a => by rw [congrFun h0 a]; simp) (outAt m c)).symm

/-- The output ends as the result. -/
theorem finalA_out (c : Dev nD) : finalA m ρ c 7 = (outAt m c : Buf (Elt F) ((cfg0.win 7).arr.view.loc (c : Thread nD τ))) :=
  (dats m ρ 0 c).arrAt_eq_of_cover 7 (outAt m c) (flushed_out m ρ c) fun i =>
    ⟨t0_0, flush0_7 t0_0, by
      show i ∈ ((View.whole main_v1).slice (win0_7.rect t0_0)).set
      rw [View.set_slice_whole, Rect.mem_set_unit]
      intro a
      have h0 : (i 0 : Nat) < 512 := (i 0).isLt
      have h1 : (i 1 : Nat) < 128 := (i 1).isLt
      match a with
      | ⟨0, _⟩ => show win0_7.index t0_0 0 * win0_7.size 0 ≤ (i 0 : Nat) ∧ (i 0 : Nat) < win0_7.index t0_0 0 * win0_7.size 0 + win0_7.xsize (grid0.coords t0_0) 0
                  rw [show win0_7.index t0_0 0 * win0_7.size 0 = 0 from by decide +kernel, show win0_7.xsize (grid0.coords t0_0) 0 = 512 from by decide +kernel]; omega
      | ⟨1, _⟩ => show win0_7.index t0_0 1 * win0_7.size 1 ≤ (i 1 : Nat) ∧ (i 1 : Nat) < win0_7.index t0_0 1 * win0_7.size 1 + win0_7.xsize (grid0.coords t0_0) 1
                  rw [show win0_7.index t0_0 1 * win0_7.size 1 = 0 from by decide +kernel, show win0_7.xsize (grid0.coords t0_0) 1 = 128 from by decide +kernel]; omega⟩

end Cert.KernelIdeal.Mlp

end
-- ==== Proof.Mlp.Value.lean ====
/- The values: over the ideal floats the activations that the four devices hold after a layer are the
   reference's activations after that layer. -/
module

public import proofs.«01_k».proof.Proof.Mlp.KernelIdeal.Finish
public import proofs.«01_k».proof.Proof.Gen.ReferenceIdeal.Run
public import Idealize.ShloMosaic.Lib.Pointwise
public import Idealize.ShloMosaic.Lib.Layout

@[expose] public section

set_option maxRecDepth 16384

noncomputable section

namespace Cert.MlpValue

open Idealize.ShloMosaic Idealize.SL.Sem
open Idealize.ShloMosaic.TcCoe
open Cert.KernelIdeal Cert.KernelIdeal.Mlp

/-! ### One row through one layer -/

/-- One row `x` through a two-matrix layer whose hidden width is `n`, at column `b` of the result. -/
def row {n : ℕ} (x : Fin 128 → EReal) (w : Fin 128 → Fin n → EReal) (v : Fin n → Fin 128 → EReal) (b : Fin 128) : EReal :=
  ∑ j, max (∑ k, x k * w k j) 0 * v j b

/-- Column `j` of device `c`'s share of the hidden width. -/
def wide (c : Fin 4) (j : Fin 256) : Fin 1024 := ⟨256 * c.val + j.val, by omega⟩

/-- A sum over the hidden width is the sum of the four devices' sums over their shares. -/
theorem sum_wide (f : Fin 1024 → EReal) : ∑ j, f j = ∑ c : Fin 4, ∑ j : Fin 256, f (wide c j) := by
  rw [← Fintype.sum_prod_type' (fun (c : Fin 4) (j : Fin 256) => f (wide c j)),
    ← Equiv.sum_comp (finProdFinEquiv (m := 4) (n := 256)) f]
  refine Fintype.sum_congr _ _ fun p => congrArg f (Fin.ext ?_)
  exact Nat.add_comm _ _

/-- So a layer is the sum of the four devices' parts of it. -/
theorem row_parts (x : Fin 128 → EReal) (w : Fin 128 → Fin 1024 → EReal) (v : Fin 1024 → Fin 128 → EReal) (b : Fin 128) :
    row x w v b = ∑ c : Fin 4, row x (fun k j => w k (wide c j)) (fun j => v (wide c j)) b :=
  sum_wide fun j => max (∑ k, x k * w k j) 0 * v j b

/-- The two exchanges reach all four devices once each, whichever device they are counted from. -/
theorem sum_met (h : Fin 2) (c : Dev nD) (f : Fin 4 → EReal) :
    (f c + f (st1 h c)) + (f (st2 h c) + f (st1 h (st2 h c))) = ∑ d, f d := by
  rw [Fin.sum_univ_four]
  revert h c
  intro h c
  fin_cases h <;> fin_cases c
  · show (f 0 + f 1) + (f 3 + f 2) = _; ac_rfl
  · show (f 1 + f 0) + (f 2 + f 3) = _; ac_rfl
  · show (f 2 + f 3) + (f 1 + f 0) = _; ac_rfl
  · show (f 3 + f 2) + (f 0 + f 1) = _; ac_rfl
  · show (f 0 + f 3) + (f 1 + f 2) = _; ac_rfl
  · show (f 1 + f 2) + (f 0 + f 3) = _; ac_rfl
  · show (f 2 + f 1) + (f 3 + f 0) = _; ac_rfl
  · show (f 3 + f 0) + (f 2 + f 1) = _; ac_rfl

/-! ### The reference's layer -/

/-- The reference's layer as it is run: two products with the positive part between. -/
def refLayer (x : FVec Ideal ReferenceIdeal.S512x128 .f32) (w : FVec Ideal ReferenceIdeal.S128x1024 .f32)
    (v : FVec Ideal ReferenceIdeal.S1024x128 .f32) : FVec Ideal ReferenceIdeal.S512x128 .f32 :=
  Host.dotGeneral ReferenceIdeal.dot_S512x1024_S1024x128_S512x128_1_0_0_1_n_n none
    (maximumf (Host.dotGeneral ReferenceIdeal.dot_S512x128_S128x1024_S512x1024_1_0_0_1_n_n none x w)
      (broadcastInDim ReferenceIdeal.S512x1024 ![] ReferenceIdeal.Facts₀.bcast_S_S512x1024 (constant ReferenceIdeal.S_ .f32 0x00000000#32))) v

/-- Row by row. -/
theorem refLayer_apply (x : FVec Ideal ReferenceIdeal.S512x128 .f32) (w : FVec Ideal ReferenceIdeal.S128x1024 .f32)
    (v : FVec Ideal ReferenceIdeal.S1024x128 .f32) (r : Fin 512) (b : Fin 128) :
    refLayer x w v (ix2 r b) = row (fun k => x (ix2 r k)) (fun k j => w (ix2 k j)) (fun j b => v (ix2 j b)) b := by
  unfold row
  pointwise [refLayer]

/-- The reference's activations entering layer `l`, from its input and its weights layer by layer. -/
def refAct (x : FVec Ideal ReferenceIdeal.S512x128 .f32) (w : ℕ → FVec Ideal ReferenceIdeal.S128x1024 .f32)
    (v : ℕ → FVec Ideal ReferenceIdeal.S1024x128 .f32) : ℕ → FVec Ideal ReferenceIdeal.S512x128 .f32
  | 0 => x
  | l + 1 => refLayer (refAct x w v l) (w l) (v l)

/-! ### The kernel's layer -/

/-- A device's part of a layer, row by row. -/
theorem part_apply (x : FVec Ideal S256x128 .f32) (w : FVec Ideal S128x256 .f32) (v : FVec Ideal S256x128 .f32) (r : Fin 256) (b : Fin 128) :
    part x w v (ix2 r b) = row (fun k => x (ix2 r k)) (fun k j => w (ix2 k j)) (fun j b => v (ix2 j b)) b := by
  unfold row
  pointwise [part, Gen.k0_pay6, Gen.k0_pay5]

/-- Row `r` of half `h`. -/
def tall (h : Fin 2) (r : Fin 256) : Fin 512 := ⟨256 * h.val + r.val, by omega⟩

/-- The device whose rows of the input hold it. -/
def home (h : Fin 2) (r : Fin 256) : Dev nD := (⟨(256 * h.val + r.val) / 128, by omega⟩ : Fin 4)

section Layers

variable (m : (ℓ : Loc nD τ sig) → Buf (Elt Ideal) ℓ)

/-- The activations after a layer are the sum of four parts, whichever device holds them. -/
theorem act_succ_apply (l : ℕ) (h : Fin 2) (c : Dev nD) (i : S256x128.Idx) :
    act m (l + 1) h c i
      = (partOf m (act m l) l h c i + partOf m (act m l) l h (st1 h c) i)
        + (partOf m (act m l) l h (st2 h c) i + partOf m (act m l) l h (st1 h (st2 h c)) i) := rfl

/-- Device by device the kernel's activations are the rows of the reference's, if the devices' weights are their
    shares of the reference's weights and the gathered input is the reference's input. -/
theorem act_eq (X : FVec Ideal ReferenceIdeal.S512x128 .f32) (W : ℕ → FVec Ideal ReferenceIdeal.S128x1024 .f32)
    (V : ℕ → FVec Ideal ReferenceIdeal.S1024x128 .f32)
    (hX : ∀ h r k, (act m 0 h 0 (ix2 r k) : EReal) = X (ix2 (tall h r) k))
    (hW : ∀ l, l < 3 → ∀ (c : Dev nD) (k : Fin 128) (j : Fin 256), (wl m l c (ix2 k j) : EReal) = W l (ix2 k (wide c j)))
    (hV : ∀ l, l < 3 → ∀ (c : Dev nD) (j : Fin 256) (b : Fin 128), (vl m l c (ix2 j b) : EReal) = V l (ix2 (wide c j) b)) :
    ∀ l, l ≤ 3 → ∀ h c r b, (act m l h c (ix2 r b) : EReal) = refAct X W V l (ix2 (tall h r) b)
  | 0, _, h, _, r, b => hX h r b
  | l + 1, hl, h, c, r, b => by
    have key (d : Dev nD) : (partOf m (act m l) l h d (ix2 r b) : EReal)
        = row (fun k => refAct X W V l (ix2 (tall h r) k)) (fun k j => W l (ix2 k (wide d j))) (fun j b => V l (ix2 (wide d j) b)) b := by
      refine (part_apply _ _ _ r b).trans ?_
      simp only [act_eq X W V hX hW hV l (by omega) h d, hW l (by omega) d, hV l (by omega) d]
    refine (act_succ_apply m l h c (ix2 r b)).trans ?_
    rw [key, key, key, key]
    refine (sum_met h c fun d => row (fun k => refAct X W V l (ix2 (tall h r) k)) (fun k j => W l (ix2 k (wide d j))) (fun j b => V l (ix2 (wide d j) b)) b).trans ?_
    exact ((refLayer_apply _ _ _ _ _).trans (row_parts _ _ _ _)).symm

/-! ### The memories -/

/-- What each device holds, in terms of the whole arrays: its rows of the input, its columns of every first weight and
    its rows of every second weight. -/
structure Shares (X : FVec Ideal ReferenceIdeal.S512x128 .f32) (W : ℕ → FVec Ideal ReferenceIdeal.S128x1024 .f32)
    (V : ℕ → FVec Ideal ReferenceIdeal.S1024x128 .f32) : Prop where
  input (c : Dev nD) : xs m c = Layout.block ⟨2, ![128, 128]⟩ ⟨2, ![512, 128]⟩ 0 4 c X
  first (l : ℕ) (hl : l < 3) (c : Dev nD) : wl m l c = Layout.block ⟨2, ![128, 256]⟩ ⟨2, ![128, 1024]⟩ 1 4 c (W l)
  second (l : ℕ) (hl : l < 3) (c : Dev nD) : vl m l c = Layout.block ⟨2, ![256, 128]⟩ ⟨2, ![1024, 128]⟩ 0 4 c (V l)

variable {m}
variable {X : FVec Ideal ReferenceIdeal.S512x128 .f32} {W : ℕ → FVec Ideal ReferenceIdeal.S128x1024 .f32}
  {V : ℕ → FVec Ideal ReferenceIdeal.S1024x128 .f32}

/-- An index of a matrix from its two coordinates' values. -/
theorem ix2_of_val {p q : ℕ} (i : (⟨2, ![p, q]⟩ : Shape).Idx) (a : Fin p) (b : Fin q) (ha : (i 0).val = a.val) (hb : (i 1).val = b.val) : i = ix2 a b := by
  rw [eq_ix2 i]
  exact congrArg₂ ix2 (Fin.ext ha) (Fin.ext hb)

/-- An element of a device's first weight. -/
theorem Shares.first_apply (s : Shares m X W V) (l : ℕ) (hl : l < 3) (c : Dev nD) (k : Fin 128) (j : Fin 256) :
    (wl m l c (ix2 k j) : EReal) = W l (ix2 k (wide c j)) := by
  rw [s.first l hl c]
  refine congrArg (W l) (ix2_of_val _ _ _ rfl ?_)
  exact congrArg (· + j.val) (Nat.mul_comm c.val 256)

/-- An element of a device's second weight. -/
theorem Shares.second_apply (s : Shares m X W V) (l : ℕ) (hl : l < 3) (c : Dev nD) (j : Fin 256) (b : Fin 128) :
    (vl m l c (ix2 j b) : EReal) = V l (ix2 (wide c j) b) := by
  rw [s.second l hl c]
  refine congrArg (V l) (ix2_of_val _ _ _ ?_ rfl)
  exact congrArg (· + j.val) (Nat.mul_comm c.val 256)

/-- An element of the gathered input. -/
theorem Shares.gathered (s : Shares m X W V) (h : Fin 2) (c : Dev nD) (r : Fin 256) (k : Fin 128) :
    (act m 0 h c (ix2 r k) : EReal) = X (ix2 (tall h r) k) := by
  have e : (act m 0 h c (ix2 r k) : EReal)
      = xs m (home h r) (ix2 ⟨(256 * h.val + r.val) % 128, Nat.mod_lt _ (by decide)⟩ k) := by
    show (Gen.k0_pay1 (xs m (home h r))
      (ix (p := 128) (q := 128) ⟨(256 * h.val + r.val) % 128, Nat.mod_lt _ (by decide)⟩ k) : EReal) = _
    rw [show ix (p := 128) (q := 128) ⟨(256 * h.val + r.val) % 128, Nat.mod_lt _ (by decide)⟩ k
      = ix2 ⟨(256 * h.val + r.val) % 128, Nat.mod_lt _ (by decide)⟩ k from ix2_of_val _ _ _ rfl rfl]
    pointwise [Gen.k0_pay1]
  rw [e, s.input]
  refine congrArg X (ix2_of_val _ _ _ ?_ rfl)
  show (256 * h.val + r.val) / 128 * 128 + (256 * h.val + r.val) % 128 = 256 * h.val + r.val
  omega

/-- Every device's result is the reference's. -/
theorem Shares.outAt_eq (s : Shares m X W V) (c : Dev nD) : outAt m c = refAct X W V 3 := by
  funext i
  obtain ⟨r, b, rfl⟩ : ∃ (r : Fin 512) (b : Fin 128), i = ix2 r b := ⟨i 0, i 1, eq_ix2 i⟩
  have e : ix (p := 256) (q := 128) ⟨r.val % 256, Nat.mod_lt _ (by decide)⟩ b
      = ix2 ⟨r.val % 256, Nat.mod_lt _ (by decide)⟩ b := ix2_of_val _ _ _ rfl rfl
  show act m 3 ⟨r.val / 256, Nat.div_lt_of_lt_mul r.isLt⟩ c (ix (p := 256) (q := 128) ⟨r.val % 256, Nat.mod_lt _ (by decide)⟩ b) = _
  rw [e]
  refine (act_eq m X W V (fun h r k => s.gathered h 0 r k) s.first_apply s.second_apply 3 le_rfl _ c _ b).trans ?_
  refine congrArg (fun t => refAct X W V 3 (ix2 t b)) (Fin.ext ?_)
  exact Nat.div_add_mod r.val 256

end Layers

/-! ### Reading whole arrays -/

section Blocks

variable (m : (ℓ : Loc nD τ sig) → Buf (Elt Ideal) ℓ) (c : Dev nD)

/-- The staged rows of the input are the whole of their array. -/
theorem xs_eq : xs m c = m ((c : Thread nD τ).loc main_arg0) :=
  Memref.read_access_unit_zero (Elt Ideal) main_arg0 (by funext a; fin_cases a <;> decide) _ _
/-- So is the first layer's first weight, -/
theorem w0_eq : w0 m c = m ((c : Thread nD τ).loc main_arg1) :=
  Memref.read_access_unit_zero (Elt Ideal) main_arg1 (by funext a; fin_cases a <;> decide) _ _
/-- its second weight, -/
theorem v0_eq : v0 m c = m ((c : Thread nD τ).loc main_arg2) :=
  Memref.read_access_unit_zero (Elt Ideal) main_arg2 (by funext a; fin_cases a <;> decide) _ _
/-- the second layer's first weight, -/
theorem w1_eq : w1 m c = m ((c : Thread nD τ).loc main_arg3) :=
  Memref.read_access_unit_zero (Elt Ideal) main_arg3 (by funext a; fin_cases a <;> decide) _ _
/-- its second weight, -/
theorem v1_eq : v1 m c = m ((c : Thread nD τ).loc main_arg4) :=
  Memref.read_access_unit_zero (Elt Ideal) main_arg4 (by funext a; fin_cases a <;> decide) _ _
/-- the third layer's first weight, -/
theorem w2_eq : w2 m c = m ((c : Thread nD τ).loc main_arg5) :=
  Memref.read_access_unit_zero (Elt Ideal) main_arg5 (by funext a; fin_cases a <;> decide) _ _
/-- and its second weight. -/
theorem v2_eq : v2 m c = m ((c : Thread nD τ).loc main_arg6) :=
  Memref.read_access_unit_zero (Elt Ideal) main_arg6 (by funext a; fin_cases a <;> decide) _ _

end Blocks

end Cert.MlpValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Mlp.Kernel.Launch
public import proofs.«01_k».proof.Proof.Mlp.KernelIdeal.Launch
public import proofs.«01_k».proof.Proof.Mlp.Value
public import Idealize.ShloMosaic.Adequacy
public import Idealize.ShloMosaic.Init

@[expose] public section

noncomputable section

namespace Cert.Proof

open Idealize.ShloMosaic Idealize.SL.Sem Cert.Kernel

/-- The kernel terminates with its arguments unchanged and every counter zero, -/
theorem quiescentKernel : quiescent_Kernel := fun m g _ =>
  (θ_run Kernel.defs _ _).mono
    (fun r h => ⟨fun c =>
      ⟨(h.1 c 0).trans (Kernel.Mlp.finalA_in m g c 0 rfl), (h.1 c 1).trans (Kernel.Mlp.finalA_in m g c 1 rfl),
       (h.1 c 2).trans (Kernel.Mlp.finalA_in m g c 2 rfl), (h.1 c 3).trans (Kernel.Mlp.finalA_in m g c 3 rfl),
       (h.1 c 4).trans (Kernel.Mlp.finalA_in m g c 4 rfl), (h.1 c 5).trans (Kernel.Mlp.finalA_in m g c 5 rfl),
       (h.1 c 6).trans (Kernel.Mlp.finalA_in m g c 6 rfl)⟩, h.2⟩)
    (Kernel.Mlp.run_main m g)

/-- The kernel over the ideal floats: what its result is, and that its arguments are unchanged. -/
theorem runIdeal (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      (∀ c : Dev KernelIdeal.nD,
        r.2.mem ((c.tc : Thread KernelIdeal.nD KernelIdeal.τ).loc KernelIdeal.main_v1) = KernelIdeal.Mlp.outAt m c
        ∧ r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2)
        ∧ r.2.mem ((c.tc : Thread KernelIdeal.nD KernelIdeal.τ).loc KernelIdeal.main_arg3) = m ((c.tc : Thread KernelIdeal.nD KernelIdeal.τ).loc KernelIdeal.main_arg3)
        ∧ r.2.mem ((c.tc : Thread KernelIdeal.nD KernelIdeal.τ).loc KernelIdeal.main_arg4) = m ((c.tc : Thread KernelIdeal.nD KernelIdeal.τ).loc KernelIdeal.main_arg4)
        ∧ r.2.mem ((c.tc : Thread KernelIdeal.nD KernelIdeal.τ).loc KernelIdeal.main_arg5) = m ((c.tc : Thread KernelIdeal.nD KernelIdeal.τ).loc KernelIdeal.main_arg5)
        ∧ r.2.mem ((c.tc : Thread KernelIdeal.nD KernelIdeal.τ).loc KernelIdeal.main_arg6) = m ((c.tc : Thread KernelIdeal.nD KernelIdeal.τ).loc KernelIdeal.main_arg6))
      ∧ r.2.sem = fun _ => 0) :=
  (θ_run KernelIdeal.defs _ _).mono
    (fun r h => ⟨fun c =>
      ⟨(h.1 c 7).trans (KernelIdeal.Mlp.finalA_out m g c),
       (h.1 c 0).trans (KernelIdeal.Mlp.finalA_in m g c 0 rfl), (h.1 c 1).trans (KernelIdeal.Mlp.finalA_in m g c 1 rfl),
       (h.1 c 2).trans (KernelIdeal.Mlp.finalA_in m g c 2 rfl), (h.1 c 3).trans (KernelIdeal.Mlp.finalA_in m g c 3 rfl),
       (h.1 c 4).trans (KernelIdeal.Mlp.finalA_in m g c 4 rfl), (h.1 c 5).trans (KernelIdeal.Mlp.finalA_in m g c 5 rfl),
       (h.1 c 6).trans (KernelIdeal.Mlp.finalA_in m g c 6 rfl)⟩, h.2⟩)
    (KernelIdeal.Mlp.run_main m g)

/-- the kernel over the ideal floats terminates so too, -/
theorem quiescentKernelIdeal : quiescent_KernelIdeal := fun m g _ =>
  (θ_run KernelIdeal.defs _ _).mono (fun _ h => ⟨fun c => (h.1 c).2, h.2⟩) (runIdeal m g)

/-- and so does the reference. -/
theorem quiescentReferenceIdeal : quiescent_ReferenceIdeal := fun m g _ =>
  (θ_run ReferenceIdeal.defs _ _).mono (fun r h => ⟨fun c => (h c).2, sem_eq_zero_of_no_sems (by decide) r.2⟩)
    (ReferenceIdeal.Value.run m g)

/-- Over the ideal floats every device ends with the reference's result. -/
theorem algebraic : algebraic_KernelIdeal_ReferenceIdeal := fun m g m' g' _ hm => by
  let X : FVec Ideal ReferenceIdeal.S512x128 .f32 := m' (((0 : Dev ReferenceIdeal.nD).tc : Thread ReferenceIdeal.nD ReferenceIdeal.τ).loc ReferenceIdeal.main_arg0)
  let W : ℕ → FVec Ideal ReferenceIdeal.S128x1024 .f32 := fun
    | 0 => m' (((0 : Dev ReferenceIdeal.nD).tc : Thread ReferenceIdeal.nD ReferenceIdeal.τ).loc ReferenceIdeal.main_arg1)
    | 1 => m' (((0 : Dev ReferenceIdeal.nD).tc : Thread ReferenceIdeal.nD ReferenceIdeal.τ).loc ReferenceIdeal.main_arg3)
    | _ => m' (((0 : Dev ReferenceIdeal.nD).tc : Thread ReferenceIdeal.nD ReferenceIdeal.τ).loc ReferenceIdeal.main_arg5)
  let V : ℕ → FVec Ideal ReferenceIdeal.S1024x128 .f32 := fun
    | 0 => m' (((0 : Dev ReferenceIdeal.nD).tc : Thread ReferenceIdeal.nD ReferenceIdeal.τ).loc ReferenceIdeal.main_arg2)
    | 1 => m' (((0 : Dev ReferenceIdeal.nD).tc : Thread ReferenceIdeal.nD ReferenceIdeal.τ).loc ReferenceIdeal.main_arg4)
    | _ => m' (((0 : Dev ReferenceIdeal.nD).tc : Thread ReferenceIdeal.nD ReferenceIdeal.τ).loc ReferenceIdeal.main_arg6)
  have s : MlpValue.Shares m X W V := by
    refine ⟨fun c => (MlpValue.xs_eq m c).trans (hm c).1, fun l hl c => ?_, fun l hl c => ?_⟩
    · match l, hl with
      | 0, _ => exact (MlpValue.w0_eq m c).trans (hm c).2.1
      | 1, _ => exact (MlpValue.w1_eq m c).trans (hm c).2.2.2.1
      | 2, _ => exact (MlpValue.w2_eq m c).trans (hm c).2.2.2.2.2.1
    · match l, hl with
      | 0, _ => exact (MlpValue.v0_eq m c).trans (hm c).2.2.1
      | 1, _ => exact (MlpValue.v1_eq m c).trans (hm c).2.2.2.2.1
      | 2, _ => exact (MlpValue.v2_eq m c).trans (hm c).2.2.2.2.2.2
  refine ⟨MlpValue.refAct X W V 3, ?_, ?_⟩
  · exact (θ_run KernelIdeal.defs _ _).mono (fun _ h c => ⟨(h.1 c).1.trans (s.outAt_eq c), (h.1 c).2⟩) (runIdeal m g)
  · exact (θ_run ReferenceIdeal.defs _ _).mono (fun _ h => h 0) (ReferenceIdeal.Value.run m' g')

/-- The claims together. -/
theorem claim : Cert.Claim :=
  ⟨Cert.Kernel.Gen.facts, Cert.KernelIdeal.Gen.facts, Cert.ReferenceIdeal.Gen.facts,
    quiescentKernel, quiescentKernelIdeal, quiescentReferenceIdeal, trivial, algebraic⟩

end Cert.Proof

end
